-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S320000x128 : Shape := ⟨2, ![320000, 128]⟩
abbrev S320000 : Shape := ⟨1, ![320000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : IVec S320000 32) (main_arg2 : FVec F S128x256 .f32) (main_arg3 : FVec F S256 .f32) (main_arg4 : FVec F S256x64 .f32) (main_arg5 : FVec F S64 .f32) (main_arg6 : FVec F S64x1 .f32) (main_arg7 : FVec F S1 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 512#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Kernel.lean ====
abbrev S320000x128 : Shape := ⟨2, ![320000, 128]⟩
abbrev S320000 : Shape := ⟨1, ![320000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S50x1x6400 : Shape := ⟨3, ![50, 1, 6400]⟩
abbrev S_ : Shape := ⟨0, ![]⟩
abbrev S1x1x6400 : Shape := ⟨3, ![1, 1, 6400]⟩
abbrev S49x1x6400 : Shape := ⟨3, ![49, 1, 6400]⟩
abbrev S1x256 : Shape := ⟨2, ![1, 256]⟩
abbrev S1x64 : Shape := ⟨2, ![1, 64]⟩
abbrev S1x1 : Shape := ⟨2, ![1, 1]⟩
abbrev S512x1 : Shape := ⟨2, ![512, 1]⟩
abbrev S6400x128 : Shape := ⟨2, ![6400, 128]⟩
abbrev S544x256 : Shape := ⟨2, ![544, 256]⟩
abbrev S6400x256 : Shape := ⟨2, ![6400, 256]⟩
abbrev S1x6400 : Shape := ⟨2, ![1, 6400]⟩
abbrev S1x1x1 : Shape := ⟨3, ![1, 1, 1]⟩
abbrev S32x6400 : Shape := ⟨2, ![32, 6400]⟩
abbrev S32x256 : Shape := ⟨2, ![32, 256]⟩
abbrev S512x256 : Shape := ⟨2, ![512, 256]⟩
abbrev S512x64 : Shape := ⟨2, ![512, 64]⟩
abbrev S512 : Shape := ⟨1, ![512]⟩

abbrev nBuf : Space → Nat
  | .hbm => 18
  | .vmem => 15
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S50x1x6400, .i32⟩
  | .hbm, ⟨9, _⟩ => ⟨S_, .i32⟩
  | .hbm, ⟨10, _⟩ => ⟨S1x1x6400, .i32⟩
  | .hbm, ⟨11, _⟩ => ⟨S49x1x6400, .i32⟩
  | .hbm, ⟨12, _⟩ => ⟨S50x1x6400, .i32⟩
  | .hbm, ⟨13, _⟩ => ⟨S1x256, .f32⟩
  | .hbm, ⟨14, _⟩ => ⟨S1x64, .f32⟩
  | .hbm, ⟨15, _⟩ => ⟨S1x64, .f32⟩
  | .hbm, ⟨16, _⟩ => ⟨S1x1, .f32⟩
  | .hbm, ⟨17, _⟩ => ⟨S512x1, .f32⟩
  | .local _ .vmem, ⟨0, _⟩ => ⟨S6400x128, .f32⟩
  | .local _ .vmem, ⟨1, _⟩ => ⟨S6400x128, .f32⟩
  | .local _ .vmem, ⟨2, _⟩ => ⟨S1x1x6400, .i32⟩
  | .local _ .vmem, ⟨3, _⟩ => ⟨S1x1x6400, .i32⟩
  | .local _ .vmem, ⟨4, _⟩ => ⟨S1x1x6400, .i32⟩
  | .local _ .vmem, ⟨5, _⟩ => ⟨S1x1x6400, .i32⟩
  | .local _ .vmem, ⟨6, _⟩ => ⟨S128x256, .f32⟩
  | .local _ .vmem, ⟨7, _⟩ => ⟨S1x256, .f32⟩
  | .local _ .vmem, ⟨8, _⟩ => ⟨S256x64, .f32⟩
  | .local _ .vmem, ⟨9, _⟩ => ⟨S1x64, .f32⟩
  | .local _ .vmem, ⟨10, _⟩ => ⟨S1x64, .f32⟩
  | .local _ .vmem, ⟨11, _⟩ => ⟨S1x1, .f32⟩
  | .local _ .vmem, ⟨12, _⟩ => ⟨S512x1, .f32⟩
  | .local _ .vmem, ⟨13, _⟩ => ⟨S544x256, .f32⟩
  | .local _ .vmem, ⟨14, _⟩ => ⟨S6400x256, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![50], ![false]⟩

def k0_off1 (v15 : BitVec 32) : Fin 2 → Nat :=
  let c0_i32_8 : BitVec 32 := 0#32
  let v21 : BitVec 1 := Scalar.cmpi .sgt v15 c0_i32_8
  let v22 : BitVec 32 := Scalar.extui v21
  let c0_i32_9 : BitVec 32 := 0#32
  let v23 : BitVec 1 := Scalar.cmpi .slt v15 c0_i32_9
  let v24 : BitVec 32 := Scalar.extui v23
  let v25 : BitVec 32 := Scalar.subi v22 v24
  let c32_i32 : BitVec 32 := 32#32
  let c0_i32_10 : BitVec 32 := 0#32
  let v26 : BitVec 1 := Scalar.cmpi .sgt c32_i32 c0_i32_10
  let v27 : BitVec 32 := Scalar.extui v26
  let c0_i32_11 : BitVec 32 := 0#32
  let v28 : BitVec 1 := Scalar.cmpi .slt c32_i32 c0_i32_11
  let v29 : BitVec 32 := Scalar.extui v28
  let v30 : BitVec 32 := Scalar.subi v27 v29
  let v31 : BitVec 1 := Scalar.cmpi .ne v25 v30
  let v32 : BitVec 32 := Scalar.remsi v15 c32_i32
  let c0_i32_12 : BitVec 32 := 0#32
  let v33 : BitVec 1 := Scalar.cmpi .ne v32 c0_i32_12
  let v34 : BitVec 1 := Scalar.andi v31 v33
  let v20 : BitVec 32 := Scalar.divsi v15 c32_i32
  let c1_i32 : BitVec 32 := 1#32
  let v35 : BitVec 32 := Scalar.subi v20 c1_i32
  let v36 : BitVec 32 := Scalar.select v34 v35 v20
  let c32_i32_13 : BitVec 32 := 32#32
  let v37 : BitVec 32 := Scalar.muli v36 c32_i32_13
  let v46 : Index := Scalar.indexCast v37
  let c0_15 : Index := 0#32
  ![v46.toNat, 0]

def k0_chk1 (v15 : BitVec 32) : Prop :=
  (∀ a, (k0_off1 v15) a + S32x256.size a ≤ S544x256.size a)
theorem k0_off1_inb : ∀ (v15 : BitVec 32) (k0_hw1 : k0_chk1 v15), ∀ a, (k0_off1 v15) a + S32x256.size a ≤ S544x256.size a := fun v15 k0_hw1 => k0_hw1

@[reducible] def k0_t1_loop (v15 : BitVec 32) (v19 : BitVec 32) : Scf.Loop 32 :=
  let c1_i32_42 : BitVec 32 := 1#32
  let c0_i32_8 : BitVec 32 := 0#32
  let v21 : BitVec 1 := Scalar.cmpi .sgt v15 c0_i32_8
  let v22 : BitVec 32 := Scalar.extui v21
  let c0_i32_9 : BitVec 32 := 0#32
  let v23 : BitVec 1 := Scalar.cmpi .slt v15 c0_i32_9
  let v24 : BitVec 32 := Scalar.extui v23
  let v25 : BitVec 32 := Scalar.subi v22 v24
  let c32_i32 : BitVec 32 := 32#32
  let c0_i32_10 : BitVec 32 := 0#32
  let v26 : BitVec 1 := Scalar.cmpi .sgt c32_i32 c0_i32_10
  let v27 : BitVec 32 := Scalar.extui v26
  let c0_i32_11 : BitVec 32 := 0#32
  let v28 : BitVec 1 := Scalar.cmpi .slt c32_i32 c0_i32_11
  let v29 : BitVec 32 := Scalar.extui v28
  let v30 : BitVec 32 := Scalar.subi v27 v29
  let v31 : BitVec 1 := Scalar.cmpi .ne v25 v30
  let v32 : BitVec 32 := Scalar.remsi v15 c32_i32
  let c0_i32_12 : BitVec 32 := 0#32
  let v33 : BitVec 1 := Scalar.cmpi .ne v32 c0_i32_12
  let v34 : BitVec 1 := Scalar.andi v31 v33
  let v20 : BitVec 32 := Scalar.divsi v15 c32_i32
  let c1_i32 : BitVec 32 := 1#32
  let v35 : BitVec 32 := Scalar.subi v20 c1_i32
  let v36 : BitVec 32 := Scalar.select v34 v35 v20
  let c32_i32_13 : BitVec 32 := 32#32
  let v37 : BitVec 32 := Scalar.muli v36 c32_i32_13
  let v78 : BitVec 32 := Scalar.subi v19 v37
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c32_i32_34 : BitVec 32 := 32#32
  let c0_i32_37 : BitVec 32 := 0#32
  let v85 : BitVec 1 := Scalar.cmpi .sgt c32_i32_34 c0_i32_37
  let v86 : BitVec 32 := Scalar.extui v85
  let c0_i32_38 : BitVec 32 := 0#32
  let v87 : BitVec 1 := Scalar.cmpi .slt c32_i32_34 c0_i32_38
  let v88 : BitVec 32 := Scalar.extui v87
  let v89 : BitVec 32 := Scalar.subi v86 v88
  let v90 : BitVec 1 := Scalar.cmpi .ne v84 v89
  let v91 : BitVec 32 := Scalar.remsi v78 c32_i32_34
  let c0_i32_39 : BitVec 32 := 0#32
  let v92 : BitVec 1 := Scalar.cmpi .ne v91 c0_i32_39
  let v93 : BitVec 1 := Scalar.andi v90 v92
  let v79 : BitVec 32 := Scalar.divsi v78 c32_i32_34
  let c1_i32_40 : BitVec 32 := 1#32
  let v94 : BitVec 32 := Scalar.subi v79 c1_i32_40
  let v95 : BitVec 32 := Scalar.select v93 v94 v79
  let c1_i32_41 : BitVec 32 := 1#32
  let v96 : BitVec 32 := Scalar.addi v95 c1_i32_41
  let v97 : BitVec 32 := Scalar.subi v96 c1_i32_42
  let c1_i32_44 : BitVec 32 := 1#32
  let v99 : BitVec 32 := Scalar.divsi v97 c1_i32_44
  let v100 : BitVec 32 := Scalar.muli v99 c1_i32_44
  let v101 : BitVec 32 := Scalar.addi c1_i32_42 v100
  let c1_i32_45 : BitVec 32 := 1#32
  ⟨c1_i32_42, v101, c1_i32_45⟩
def k0_cond2 (v15 : BitVec 32) (v19 : BitVec 32) : BitVec 1 :=
  let c0_i32_8 : BitVec 32 := 0#32
  let v21 : BitVec 1 := Scalar.cmpi .sgt v15 c0_i32_8
  let v22 : BitVec 32 := Scalar.extui v21
  let c0_i32_9 : BitVec 32 := 0#32
  let v23 : BitVec 1 := Scalar.cmpi .slt v15 c0_i32_9
  let v24 : BitVec 32 := Scalar.extui v23
  let v25 : BitVec 32 := Scalar.subi v22 v24
  let c32_i32 : BitVec 32 := 32#32
  let c0_i32_10 : BitVec 32 := 0#32
  let v26 : BitVec 1 := Scalar.cmpi .sgt c32_i32 c0_i32_10
  let v27 : BitVec 32 := Scalar.extui v26
  let c0_i32_11 : BitVec 32 := 0#32
  let v28 : BitVec 1 := Scalar.cmpi .slt c32_i32 c0_i32_11
  let v29 : BitVec 32 := Scalar.extui v28
  let v30 : BitVec 32 := Scalar.subi v27 v29
  let v31 : BitVec 1 := Scalar.cmpi .ne v25 v30
  let v32 : BitVec 32 := Scalar.remsi v15 c32_i32
  let c0_i32_12 : BitVec 32 := 0#32
  let v33 : BitVec 1 := Scalar.cmpi .ne v32 c0_i32_12
  let v34 : BitVec 1 := Scalar.andi v31 v33
  let v20 : BitVec 32 := Scalar.divsi v15 c32_i32
  let c1_i32 : BitVec 32 := 1#32
  let v35 : BitVec 32 := Scalar.subi v20 c1_i32
  let v36 : BitVec 32 := Scalar.select v34 v35 v20
  let c32_i32_13 : BitVec 32 := 32#32
  let v37 : BitVec 32 := Scalar.muli v36 c32_i32_13
  let v69 : BitVec 32 := Scalar.subi v19 v37
  let c32_i32_28 : BitVec 32 := 32#32
  let v70 : BitVec 1 := Scalar.cmpi .sge v69 c32_i32_28
  let v71 : BitVec 32 := Scalar.extui v70
  let c0_i32_29 : BitVec 32 := 0#32
  let v72 : BitVec 1 := Scalar.cmpi .ne v71 c0_i32_29
  v72

def k0_off2 (v15 : BitVec 32) (v19 : BitVec 32) (k0_t1 : Fin (k0_t1_loop v15 v19).trips) : Fin 2 → Nat :=
  let c0_i32_8 : BitVec 32 := 0#32
  let v21 : BitVec 1 := Scalar.cmpi .sgt v15 c0_i32_8
  let v22 : BitVec 32 := Scalar.extui v21
  let c0_i32_9 : BitVec 32 := 0#32
  let v23 : BitVec 1 := Scalar.cmpi .slt v15 c0_i32_9
  let v24 : BitVec 32 := Scalar.extui v23
  let v25 : BitVec 32 := Scalar.subi v22 v24
  let c32_i32 : BitVec 32 := 32#32
  let c0_i32_10 : BitVec 32 := 0#32
  let v26 : BitVec 1 := Scalar.cmpi .sgt c32_i32 c0_i32_10
  let v27 : BitVec 32 := Scalar.extui v26
  let c0_i32_11 : BitVec 32 := 0#32
  let v28 : BitVec 1 := Scalar.cmpi .slt c32_i32 c0_i32_11
  let v29 : BitVec 32 := Scalar.extui v28
  let v30 : BitVec 32 := Scalar.subi v27 v29
  let v31 : BitVec 1 := Scalar.cmpi .ne v25 v30
  let v32 : BitVec 32 := Scalar.remsi v15 c32_i32
  let c0_i32_12 : BitVec 32 := 0#32
  let v33 : BitVec 1 := Scalar.cmpi .ne v32 c0_i32_12
  let v34 : BitVec 1 := Scalar.andi v31 v33
  let v20 : BitVec 32 := Scalar.divsi v15 c32_i32
  let c1_i32 : BitVec 32 := 1#32
  let v35 : BitVec 32 := Scalar.subi v20 c1_i32
  let v36 : BitVec 32 := Scalar.select v34 v35 v20
  let c32_i32_13 : BitVec 32 := 32#32
  let v37 : BitVec 32 := Scalar.muli v36 c32_i32_13
  let c1_i32_42 : BitVec 32 := 1#32
  let c1_i32_45 : BitVec 32 := 1#32
  let arg13 : BitVec 32 := Scf.iv c1_i32_42 c1_i32_45 k0_t1
  let c32_i32_47 : BitVec 32 := 32#32
  let v104 : BitVec 32 := Scalar.muli arg13 c32_i32_47
  let v105 : BitVec 32 := Scalar.addi v37 v104
  let v113 : Index := Scalar.indexCast v105
  let c0_48 : Index := 0#32
  ![v113.toNat, 0]
@[reducible] def k0_t2_loop (v15 : BitVec 32) (v19 : BitVec 32) : Scf.Loop 32 :=
  let c1_i32_42 : BitVec 32 := 1#32
  let c0_i32_8 : BitVec 32 := 0#32
  let v21 : BitVec 1 := Scalar.cmpi .sgt v15 c0_i32_8
  let v22 : BitVec 32 := Scalar.extui v21
  let c0_i32_9 : BitVec 32 := 0#32
  let v23 : BitVec 1 := Scalar.cmpi .slt v15 c0_i32_9
  let v24 : BitVec 32 := Scalar.extui v23
  let v25 : BitVec 32 := Scalar.subi v22 v24
  let c32_i32 : BitVec 32 := 32#32
  let c0_i32_10 : BitVec 32 := 0#32
  let v26 : BitVec 1 := Scalar.cmpi .sgt c32_i32 c0_i32_10
  let v27 : BitVec 32 := Scalar.extui v26
  let c0_i32_11 : BitVec 32 := 0#32
  let v28 : BitVec 1 := Scalar.cmpi .slt c32_i32 c0_i32_11
  let v29 : BitVec 32 := Scalar.extui v28
  let v30 : BitVec 32 := Scalar.subi v27 v29
  let v31 : BitVec 1 := Scalar.cmpi .ne v25 v30
  let v32 : BitVec 32 := Scalar.remsi v15 c32_i32
  let c0_i32_12 : BitVec 32 := 0#32
  let v33 : BitVec 1 := Scalar.cmpi .ne v32 c0_i32_12
  let v34 : BitVec 1 := Scalar.andi v31 v33
  let v20 : BitVec 32 := Scalar.divsi v15 c32_i32
  let c1_i32 : BitVec 32 := 1#32
  let v35 : BitVec 32 := Scalar.subi v20 c1_i32
  let v36 : BitVec 32 := Scalar.select v34 v35 v20
  let c32_i32_13 : BitVec 32 := 32#32
  let v37 : BitVec 32 := Scalar.muli v36 c32_i32_13
  let v78 : BitVec 32 := Scalar.subi v19 v37
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c32_i32_34 : BitVec 32 := 32#32
  let c0_i32_37 : BitVec 32 := 0#32
  let v85 : BitVec 1 := Scalar.cmpi .sgt c32_i32_34 c0_i32_37
  let v86 : BitVec 32 := Scalar.extui v85
  let c0_i32_38 : BitVec 32 := 0#32
  let v87 : BitVec 1 := Scalar.cmpi .slt c32_i32_34 c0_i32_38
  let v88 : BitVec 32 := Scalar.extui v87
  let v89 : BitVec 32 := Scalar.subi v86 v88
  let v90 : BitVec 1 := Scalar.cmpi .ne v84 v89
  let v91 : BitVec 32 := Scalar.remsi v78 c32_i32_34
  let c0_i32_39 : BitVec 32 := 0#32
  let v92 : BitVec 1 := Scalar.cmpi .ne v91 c0_i32_39
  let v93 : BitVec 1 := Scalar.andi v90 v92
  let v79 : BitVec 32 := Scalar.divsi v78 c32_i32_34
  let c1_i32_40 : BitVec 32 := 1#32
  let v94 : BitVec 32 := Scalar.subi v79 c1_i32_40
  let v95 : BitVec 32 := Scalar.select v93 v94 v79
  let c1_i32_41 : BitVec 32 := 1#32
  let v96 : BitVec 32 := Scalar.addi v95 c1_i32_41
  let v97 : BitVec 32 := Scalar.subi v96 c1_i32_42
  let c1_i32_44 : BitVec 32 := 1#32
  let v99 : BitVec 32 := Scalar.divsi v97 c1_i32_44
  let v100 : BitVec 32 := Scalar.muli v99 c1_i32_44
  let v101 : BitVec 32 := Scalar.addi c1_i32_42 v100
  let v98 : BitVec 32 := Scalar.addi c1_i32_42 v97
  let c1_i32_46 : BitVec 32 := 1#32
  ⟨v101, v98, c1_i32_46⟩
def k0_off3 (v15 : BitVec 32) (v19 : BitVec 32) (k0_t2 : Fin (k0_t2_loop v15 v19).trips) : Fin 2 → Nat :=
  let c0_i32_8 : BitVec 32 := 0#32
  let v21 : BitVec 1 := Scalar.cmpi .sgt v15 c0_i32_8
  let v22 : BitVec 32 := Scalar.extui v21
  let c0_i32_9 : BitVec 32 := 0#32
  let v23 : BitVec 1 := Scalar.cmpi .slt v15 c0_i32_9
  let v24 : BitVec 32 := Scalar.extui v23
  let v25 : BitVec 32 := Scalar.subi v22 v24
  let c32_i32 : BitVec 32 := 32#32
  let c0_i32_10 : BitVec 32 := 0#32
  let v26 : BitVec 1 := Scalar.cmpi .sgt c32_i32 c0_i32_10
  let v27 : BitVec 32 := Scalar.extui v26
  let c0_i32_11 : BitVec 32 := 0#32
  let v28 : BitVec 1 := Scalar.cmpi .slt c32_i32 c0_i32_11
  let v29 : BitVec 32 := Scalar.extui v28
  let v30 : BitVec 32 := Scalar.subi v27 v29
  let v31 : BitVec 1 := Scalar.cmpi .ne v25 v30
  let v32 : BitVec 32 := Scalar.remsi v15 c32_i32
  let c0_i32_12 : BitVec 32 := 0#32
  let v33 : BitVec 1 := Scalar.cmpi .ne v32 c0_i32_12
  let v34 : BitVec 1 := Scalar.andi v31 v33
  let v20 : BitVec 32 := Scalar.divsi v15 c32_i32
  let c1_i32 : BitVec 32 := 1#32
  let v35 : BitVec 32 := Scalar.subi v20 c1_i32
  let v36 : BitVec 32 := Scalar.select v34 v35 v20
  let c32_i32_13 : BitVec 32 := 32#32
  let v37 : BitVec 32 := Scalar.muli v36 c32_i32_13
  let c1_i32_42 : BitVec 32 := 1#32
  let v78 : BitVec 32 := Scalar.subi v19 v37
  let c0_i32_35 : BitVec 32 := 0#32
  let v80 : BitVec 1 := Scalar.cmpi .sgt v78 c0_i32_35
  let v81 : BitVec 32 := Scalar.extui v80
  let c0_i32_36 : BitVec 32 := 0#32
  let v82 : BitVec 1 := Scalar.cmpi .slt v78 c0_i32_36
  let v83 : BitVec 32 := Scalar.extui v82
  let v84 : BitVec 32 := Scalar.subi v81 v83
  let c32_i32_34 : BitVec 32 := 32#32
  let c0_i32_37 : BitVec 32 := 0#32
  let v85 : BitVec 1 := Scalar.cmpi .sgt c32_i32_34 c0_i32_37
  let v86 : BitVec 32 := Scalar.extui v85
  let c0_i32_38 : BitVec 32 := 0#32
  let v87 : BitVec 1 := Scalar.cmpi .slt c32_i32_34 c0_i32_38
  let v88 : BitVec 32 := Scalar.extui v87
  let v89 : BitVec 32 := Scalar.subi v86 v88
  let v90 : BitVec 1 := Scalar.cmpi .ne v84 v89
  let v91 : BitVec 32 := Scalar.remsi v78 c32_i32_34
  let c0_i32_39 : BitVec 32 := 0#32
  let v92 : BitVec 1 := Scalar.cmpi .ne v91 c0_i32_39
  let v93 : BitVec 1 := Scalar.andi v90 v92
  let v79 : BitVec 32 := Scalar.divsi v78 c32_i32_34
  let c1_i32_40 : BitVec 32 := 1#32
  let v94 : BitVec 32 := Scalar.subi v79 c1_i32_40
  let v95 : BitVec 32 := Scalar.select v93 v94 v79
  let c1_i32_41 : BitVec 32 := 1#32
  let v96 : BitVec 32 := Scalar.addi v95 c1_i32_41
  let v97 : BitVec 32 := Scalar.subi v96 c1_i32_42
  let c1_i32_44 : BitVec 32 := 1#32
  let v99 : BitVec 32 := Scalar.divsi v97 c1_i32_44
  let v100 : BitVec 32 := Scalar.muli v99 c1_i32_44
  let v101 : BitVec 32 := Scalar.addi c1_i32_42 v100
  let c1_i32_46 : BitVec 32 := 1#32
  let arg13 : BitVec 32 := Scf.iv v101 c1_i32_46 k0_t2
  let c32_i32_47 : BitVec 32 := 32#32
  let v104 : BitVec 32 := Scalar.muli arg13 c32_i32_47
  let v105 : BitVec 32 := Scalar.addi v37 v104
  let v113 : Index := Scalar.indexCast v105
  let c0_48 : Index := 0#32
  ![v113.toNat, 0]

def k0_chk2 (v15 : BitVec 32) (v19 : BitVec 32) : Prop :=
  (∀ (k0_h2 : k0_cond2 v15 v19 = 1#1), (k0_t1_loop v15 v19).OK) ∧
  (∀ k0_t1 : Fin (k0_t1_loop v15 v19).trips, ∀ (k0_h2 : k0_cond2 v15 v19 = 1#1), ∀ a, (k0_off2 v15 v19 k0_t1) a + S32x256.size a ≤ S544x256.size a) ∧
  (∀ (k0_h2 : k0_cond2 v15 v19 = 1#1), (k0_t2_loop v15 v19).OK) ∧
  (∀ k0_t2 : Fin (k0_t2_loop v15 v19).trips, ∀ (k0_h2 : k0_cond2 v15 v19 = 1#1), ∀ a, (k0_off3 v15 v19 k0_t2) a + S32x256.size a ≤ S544x256.size a)
theorem k0_t1_ok : ∀ (v15 : BitVec 32) (v19 : BitVec 32) (k0_hw2 : k0_chk2 v15 v19), ∀ (k0_h2 : k0_cond2 v15 v19 = 1#1), (k0_t1_loop v15 v19).OK := fun v15 v19 k0_hw2 k0_h2 => k0_hw2.1 k0_h2
theorem k0_off2_inb : ∀ (v15 : BitVec 32) (v19 : BitVec 32) (k0_hw2 : k0_chk2 v15 v19) (k0_t1 : Fin (k0_t1_loop v15 v19).trips), ∀ (k0_h2 : k0_cond2 v15 v19 = 1#1), ∀ a, (k0_off2 v15 v19 k0_t1) a + S32x256.size a ≤ S544x256.size a := fun v15 v19 k0_hw2 k0_t1 k0_h2 => k0_hw2.2.1 k0_t1 k0_h2
theorem k0_t2_ok : ∀ (v15 : BitVec 32) (v19 : BitVec 32) (k0_hw2 : k0_chk2 v15 v19), ∀ (k0_h2 : k0_cond2 v15 v19 = 1#1), (k0_t2_loop v15 v19).OK := fun v15 v19 k0_hw2 k0_h2 => k0_hw2.2.2.1 k0_h2
theorem k0_off3_inb : ∀ (v15 : BitVec 32) (v19 : BitVec 32) (k0_hw2 : k0_chk2 v15 v19) (k0_t2 : Fin (k0_t2_loop v15 v19).trips), ∀ (k0_h2 : k0_cond2 v15 v19 = 1#1), ∀ a, (k0_off3 v15 v19 k0_t2) a + S32x256.size a ≤ S544x256.size a := fun v15 v19 k0_hw2 k0_t2 k0_h2 => k0_hw2.2.2.2 k0_t2 k0_h2

def k0_cond3 (i : grid0.Coords) : BitVec 1 :=
  let arg0 : BitVec 32 := BitVec.ofNat 32 (i 0).val
  let c49_i32 : BitVec 32 := 49#32
  let v73 : BitVec 1 := Scalar.cmpi .eq arg0 c49_i32
  let v74 : BitVec 32 := Scalar.extui v73
  let c0_i32_30 : BitVec 32 := 0#32
  let v75 : BitVec 1 := Scalar.cmpi .ne v74 c0_i32_30
  v75

def k0_off4 (v88 : BitVec 32) : Fin 2 → Nat :=
  let c0_i32_41 : BitVec 32 := 0#32
  let v94 : BitVec 1 := Scalar.cmpi .sgt v88 c0_i32_41
  let v95 : BitVec 32 := Scalar.extui v94
  let c0_i32_42 : BitVec 32 := 0#32
  let v96 : BitVec 1 := Scalar.cmpi .slt v88 c0_i32_42
  let v97 : BitVec 32 := Scalar.extui v96
  let v98 : BitVec 32 := Scalar.subi v95 v97
  let c32_i32_40 : BitVec 32 := 32#32
  let c0_i32_43 : BitVec 32 := 0#32
  let v99 : BitVec 1 := Scalar.cmpi .sgt c32_i32_40 c0_i32_43
  let v100 : BitVec 32 := Scalar.extui v99
  let c0_i32_44 : BitVec 32 := 0#32
  let v101 : BitVec 1 := Scalar.cmpi .slt c32_i32_40 c0_i32_44
  let v102 : BitVec 32 := Scalar.extui v101
  let v103 : BitVec 32 := Scalar.subi v100 v102
  let v104 : BitVec 1 := Scalar.cmpi .ne v98 v103
  let v105 : BitVec 32 := Scalar.remsi v88 c32_i32_40
  let c0_i32_45 : BitVec 32 := 0#32
  let v106 : BitVec 1 := Scalar.cmpi .ne v105 c0_i32_45
  let v107 : BitVec 1 := Scalar.andi v104 v106
  let v93 : BitVec 32 := Scalar.divsi v88 c32_i32_40
  let c1_i32_46 : BitVec 32 := 1#32
  let v108 : BitVec 32 := Scalar.subi v93 c1_i32_46
  let v109 : BitVec 32 := Scalar.select v107 v108 v93
  let c32_i32_47 : BitVec 32 := 32#32
  let v110 : BitVec 32 := Scalar.muli v109 c32_i32_47
  let v119 : Index := Scalar.indexCast v110
  let c0_49 : Index := 0#32
  ![v119.toNat, 0]

def k0_chk3 (i : grid0.Coords) (v88 : BitVec 32) : Prop :=
  (∀ (k0_h3 : k0_cond3 i = 1#1), ∀ a, (k0_off4 v88) a + S32x256.size a ≤ S544x256.size a)
theorem k0_off4_inb : ∀ (i : grid0.Coords) (v88 : BitVec 32) (k0_hw3 : k0_chk3 i v88), ∀ (k0_h3 : k0_cond3 i = 1#1), ∀ a, (k0_off4 v88) a + S32x256.size a ≤ S544x256.size a := fun i v88 k0_hw3 k0_h3 => k0_hw3 k0_h3

@[reducible] def k0_t3_loop (v88 : BitVec 32) (v92 : BitVec 32) : Scf.Loop 32 :=
  let c1_i32_83 : BitVec 32 := 1#32
  let c0_i32_41 : BitVec 32 := 0#32
  let v94 : BitVec 1 := Scalar.cmpi .sgt v88 c0_i32_41
  let v95 : BitVec 32 := Scalar.extui v94
  let c0_i32_42 : BitVec 32 := 0#32
  let v96 : BitVec 1 := Scalar.cmpi .slt v88 c0_i32_42
  let v97 : BitVec 32 := Scalar.extui v96
  let v98 : BitVec 32 := Scalar.subi v95 v97
  let c32_i32_40 : BitVec 32 := 32#32
  let c0_i32_43 : BitVec 32 := 0#32
  let v99 : BitVec 1 := Scalar.cmpi .sgt c32_i32_40 c0_i32_43
  let v100 : BitVec 32 := Scalar.extui v99
  let c0_i32_44 : BitVec 32 := 0#32
  let v101 : BitVec 1 := Scalar.cmpi .slt c32_i32_40 c0_i32_44
  let v102 : BitVec 32 := Scalar.extui v101
  let v103 : BitVec 32 := Scalar.subi v100 v102
  let v104 : BitVec 1 := Scalar.cmpi .ne v98 v103
  let v105 : BitVec 32 := Scalar.remsi v88 c32_i32_40
  let c0_i32_45 : BitVec 32 := 0#32
  let v106 : BitVec 1 := Scalar.cmpi .ne v105 c0_i32_45
  let v107 : BitVec 1 := Scalar.andi v104 v106
  let v93 : BitVec 32 := Scalar.divsi v88 c32_i32_40
  let c1_i32_46 : BitVec 32 := 1#32
  let v108 : BitVec 32 := Scalar.subi v93 c1_i32_46
  let v109 : BitVec 32 := Scalar.select v107 v108 v93
  let c32_i32_47 : BitVec 32 := 32#32
  let v110 : BitVec 32 := Scalar.muli v109 c32_i32_47
  let v180 : BitVec 32 := Scalar.subi v92 v110
  let c0_i32_76 : BitVec 32 := 0#32
  let v182 : BitVec 1 := Scalar.cmpi .sgt v180 c0_i32_76
  let v183 : BitVec 32 := Scalar.extui v182
  let c0_i32_77 : BitVec 32 := 0#32
  let v184 : BitVec 1 := Scalar.cmpi .slt v180 c0_i32_77
  let v185 : BitVec 32 := Scalar.extui v184
  let v186 : BitVec 32 := Scalar.subi v183 v185
  let c32_i32_75 : BitVec 32 := 32#32
  let c0_i32_78 : BitVec 32 := 0#32
  let v187 : BitVec 1 := Scalar.cmpi .sgt c32_i32_75 c0_i32_78
  let v188 : BitVec 32 := Scalar.extui v187
  let c0_i32_79 : BitVec 32 := 0#32
  let v189 : BitVec 1 := Scalar.cmpi .slt c32_i32_75 c0_i32_79
  let v190 : BitVec 32 := Scalar.extui v189
  let v191 : BitVec 32 := Scalar.subi v188 v190
  let v192 : BitVec 1 := Scalar.cmpi .ne v186 v191
  let v193 : BitVec 32 := Scalar.remsi v180 c32_i32_75
  let c0_i32_80 : BitVec 32 := 0#32
  let v194 : BitVec 1 := Scalar.cmpi .ne v193 c0_i32_80
  let v195 : BitVec 1 := Scalar.andi v192 v194
  let v181 : BitVec 32 := Scalar.divsi v180 c32_i32_75
  let c1_i32_81 : BitVec 32 := 1#32
  let v196 : BitVec 32 := Scalar.subi v181 c1_i32_81
  let v197 : BitVec 32 := Scalar.select v195 v196 v181
  let c1_i32_82 : BitVec 32 := 1#32
  let v198 : BitVec 32 := Scalar.addi v197 c1_i32_82
  let v199 : BitVec 32 := Scalar.subi v198 c1_i32_83
  let c1_i32_85 : BitVec 32 := 1#32
  let v201 : BitVec 32 := Scalar.divsi v199 c1_i32_85
  let v202 : BitVec 32 := Scalar.muli v201 c1_i32_85
  let v203 : BitVec 32 := Scalar.addi c1_i32_83 v202
  let c1_i32_86 : BitVec 32 := 1#32
  ⟨c1_i32_83, v203, c1_i32_86⟩
def k0_cond4 (v88 : BitVec 32) (v92 : BitVec 32) : BitVec 1 :=
  let c0_i32_41 : BitVec 32 := 0#32
  let v94 : BitVec 1 := Scalar.cmpi .sgt v88 c0_i32_41
  let v95 : BitVec 32 := Scalar.extui v94
  let c0_i32_42 : BitVec 32 := 0#32
  let v96 : BitVec 1 := Scalar.cmpi .slt v88 c0_i32_42
  let v97 : BitVec 32 := Scalar.extui v96
  let v98 : BitVec 32 := Scalar.subi v95 v97
  let c32_i32_40 : BitVec 32 := 32#32
  let c0_i32_43 : BitVec 32 := 0#32
  let v99 : BitVec 1 := Scalar.cmpi .sgt c32_i32_40 c0_i32_43
  let v100 : BitVec 32 := Scalar.extui v99
  let c0_i32_44 : BitVec 32 := 0#32
  let v101 : BitVec 1 := Scalar.cmpi .slt c32_i32_40 c0_i32_44
  let v102 : BitVec 32 := Scalar.extui v101
  let v103 : BitVec 32 := Scalar.subi v100 v102
  let v104 : BitVec 1 := Scalar.cmpi .ne v98 v103
  let v105 : BitVec 32 := Scalar.remsi v88 c32_i32_40
  let c0_i32_45 : BitVec 32 := 0#32
  let v106 : BitVec 1 := Scalar.cmpi .ne v105 c0_i32_45
  let v107 : BitVec 1 := Scalar.andi v104 v106
  let v93 : BitVec 32 := Scalar.divsi v88 c32_i32_40
  let c1_i32_46 : BitVec 32 := 1#32
  let v108 : BitVec 32 := Scalar.subi v93 c1_i32_46
  let v109 : BitVec 32 := Scalar.select v107 v108 v93
  let c32_i32_47 : BitVec 32 := 32#32
  let v110 : BitVec 32 := Scalar.muli v109 c32_i32_47
  let v126 : BitVec 32 := Scalar.subi v92 v110
  let c32_i32_51 : BitVec 32 := 32#32
  let v127 : BitVec 1 := Scalar.cmpi .sge v126 c32_i32_51
  let v128 : BitVec 32 := Scalar.extui v127
  let c0_i32_52 : BitVec 32 := 0#32
  let v129 : BitVec 1 := Scalar.cmpi .ne v128 c0_i32_52
  v129

def k0_off5 (v88 : BitVec 32) (v92 : BitVec 32) (k0_t3 : Fin (k0_t3_loop v88 v92).trips) : Fin 2 → Nat :=
  let c0_i32_41 : BitVec 32 := 0#32
  let v94 : BitVec 1 := Scalar.cmpi .sgt v88 c0_i32_41
  let v95 : BitVec 32 := Scalar.extui v94
  let c0_i32_42 : BitVec 32 := 0#32
  let v96 : BitVec 1 := Scalar.cmpi .slt v88 c0_i32_42
  let v97 : BitVec 32 := Scalar.extui v96
  let v98 : BitVec 32 := Scalar.subi v95 v97
  let c32_i32_40 : BitVec 32 := 32#32
  let c0_i32_43 : BitVec 32 := 0#32
  let v99 : BitVec 1 := Scalar.cmpi .sgt c32_i32_40 c0_i32_43
  let v100 : BitVec 32 := Scalar.extui v99
  let c0_i32_44 : BitVec 32 := 0#32
  let v101 : BitVec 1 := Scalar.cmpi .slt c32_i32_40 c0_i32_44
  let v102 : BitVec 32 := Scalar.extui v101
  let v103 : BitVec 32 := Scalar.subi v100 v102
  let v104 : BitVec 1 := Scalar.cmpi .ne v98 v103
  let v105 : BitVec 32 := Scalar.remsi v88 c32_i32_40
  let c0_i32_45 : BitVec 32 := 0#32
  let v106 : BitVec 1 := Scalar.cmpi .ne v105 c0_i32_45
  let v107 : BitVec 1 := Scalar.andi v104 v106
  let v93 : BitVec 32 := Scalar.divsi v88 c32_i32_40
  let c1_i32_46 : BitVec 32 := 1#32
  let v108 : BitVec 32 := Scalar.subi v93 c1_i32_46
  let v109 : BitVec 32 := Scalar.select v107 v108 v93
  let c32_i32_47 : BitVec 32 := 32#32
  let v110 : BitVec 32 := Scalar.muli v109 c32_i32_47
  let c1_i32_83 : BitVec 32 := 1#32
  let c1_i32_86 : BitVec 32 := 1#32
  let arg13 : BitVec 32 := Scf.iv c1_i32_83 c1_i32_86 k0_t3
  let c32_i32_88 : BitVec 32 := 32#32
  let v206 : BitVec 32 := Scalar.muli arg13 c32_i32_88
  let v207 : BitVec 32 := Scalar.addi v110 v206
  let v215 : Index := Scalar.indexCast v207
  let c0_89 : Index := 0#32
  ![v215.toNat, 0]
@[reducible] def k0_t4_loop (v88 : BitVec 32) (v92 : BitVec 32) : Scf.Loop 32 :=
  let c1_i32_83 : BitVec 32 := 1#32
  let c0_i32_41 : BitVec 32 := 0#32
  let v94 : BitVec 1 := Scalar.cmpi .sgt v88 c0_i32_41
  let v95 : BitVec 32 := Scalar.extui v94
  let c0_i32_42 : BitVec 32 := 0#32
  let v96 : BitVec 1 := Scalar.cmpi .slt v88 c0_i32_42
  let v97 : BitVec 32 := Scalar.extui v96
  let v98 : BitVec 32 := Scalar.subi v95 v97
  let c32_i32_40 : BitVec 32 := 32#32
  let c0_i32_43 : BitVec 32 := 0#32
  let v99 : BitVec 1 := Scalar.cmpi .sgt c32_i32_40 c0_i32_43
  let v100 : BitVec 32 := Scalar.extui v99
  let c0_i32_44 : BitVec 32 := 0#32
  let v101 : BitVec 1 := Scalar.cmpi .slt c32_i32_40 c0_i32_44
  let v102 : BitVec 32 := Scalar.extui v101
  let v103 : BitVec 32 := Scalar.subi v100 v102
  let v104 : BitVec 1 := Scalar.cmpi .ne v98 v103
  let v105 : BitVec 32 := Scalar.remsi v88 c32_i32_40
  let c0_i32_45 : BitVec 32 := 0#32
  let v106 : BitVec 1 := Scalar.cmpi .ne v105 c0_i32_45
  let v107 : BitVec 1 := Scalar.andi v104 v106
  let v93 : BitVec 32 := Scalar.divsi v88 c32_i32_40
  let c1_i32_46 : BitVec 32 := 1#32
  let v108 : BitVec 32 := Scalar.subi v93 c1_i32_46
  let v109 : BitVec 32 := Scalar.select v107 v108 v93
  let c32_i32_47 : BitVec 32 := 32#32
  let v110 : BitVec 32 := Scalar.muli v109 c32_i32_47
  let v180 : BitVec 32 := Scalar.subi v92 v110
  let c0_i32_76 : BitVec 32 := 0#32
  let v182 : BitVec 1 := Scalar.cmpi .sgt v180 c0_i32_76
  let v183 : BitVec 32 := Scalar.extui v182
  let c0_i32_77 : BitVec 32 := 0#32
  let v184 : BitVec 1 := Scalar.cmpi .slt v180 c0_i32_77
  let v185 : BitVec 32 := Scalar.extui v184
  let v186 : BitVec 32 := Scalar.subi v183 v185
  let c32_i32_75 : BitVec 32 := 32#32
  let c0_i32_78 : BitVec 32 := 0#32
  let v187 : BitVec 1 := Scalar.cmpi .sgt c32_i32_75 c0_i32_78
  let v188 : BitVec 32 := Scalar.extui v187
  let c0_i32_79 : BitVec 32 := 0#32
  let v189 : BitVec 1 := Scalar.cmpi .slt c32_i32_75 c0_i32_79
  let v190 : BitVec 32 := Scalar.extui v189
  let v191 : BitVec 32 := Scalar.subi v188 v190
  let v192 : BitVec 1 := Scalar.cmpi .ne v186 v191
  let v193 : BitVec 32 := Scalar.remsi v180 c32_i32_75
  let c0_i32_80 : BitVec 32 := 0#32
  let v194 : BitVec 1 := Scalar.cmpi .ne v193 c0_i32_80
  let v195 : BitVec 1 := Scalar.andi v192 v194
  let v181 : BitVec 32 := Scalar.divsi v180 c32_i32_75
  let c1_i32_81 : BitVec 32 := 1#32
  let v196 : BitVec 32 := Scalar.subi v181 c1_i32_81
  let v197 : BitVec 32 := Scalar.select v195 v196 v181
  let c1_i32_82 : BitVec 32 := 1#32
  let v198 : BitVec 32 := Scalar.addi v197 c1_i32_82
  let v199 : BitVec 32 := Scalar.subi v198 c1_i32_83
  let c1_i32_85 : BitVec 32 := 1#32
  let v201 : BitVec 32 := Scalar.divsi v199 c1_i32_85
  let v202 : BitVec 32 := Scalar.muli v201 c1_i32_85
  let v203 : BitVec 32 := Scalar.addi c1_i32_83 v202
  let v200 : BitVec 32 := Scalar.addi c1_i32_83 v199
  let c1_i32_87 : BitVec 32 := 1#32
  ⟨v203, v200, c1_i32_87⟩
def k0_off6 (v88 : BitVec 32) (v92 : BitVec 32) (k0_t4 : Fin (k0_t4_loop v88 v92).trips) : Fin 2 → Nat :=
  let c0_i32_41 : BitVec 32 := 0#32
  let v94 : BitVec 1 := Scalar.cmpi .sgt v88 c0_i32_41
  let v95 : BitVec 32 := Scalar.extui v94
  let c0_i32_42 : BitVec 32 := 0#32
  let v96 : BitVec 1 := Scalar.cmpi .slt v88 c0_i32_42
  let v97 : BitVec 32 := Scalar.extui v96
  let v98 : BitVec 32 := Scalar.subi v95 v97
  let c32_i32_40 : BitVec 32 := 32#32
  let c0_i32_43 : BitVec 32 := 0#32
  let v99 : BitVec 1 := Scalar.cmpi .sgt c32_i32_40 c0_i32_43
  let v100 : BitVec 32 := Scalar.extui v99
  let c0_i32_44 : BitVec 32 := 0#32
  let v101 : BitVec 1 := Scalar.cmpi .slt c32_i32_40 c0_i32_44
  let v102 : BitVec 32 := Scalar.extui v101
  let v103 : BitVec 32 := Scalar.subi v100 v102
  let v104 : BitVec 1 := Scalar.cmpi .ne v98 v103
  let v105 : BitVec 32 := Scalar.remsi v88 c32_i32_40
  let c0_i32_45 : BitVec 32 := 0#32
  let v106 : BitVec 1 := Scalar.cmpi .ne v105 c0_i32_45
  let v107 : BitVec 1 := Scalar.andi v104 v106
  let v93 : BitVec 32 := Scalar.divsi v88 c32_i32_40
  let c1_i32_46 : BitVec 32 := 1#32
  let v108 : BitVec 32 := Scalar.subi v93 c1_i32_46
  let v109 : BitVec 32 := Scalar.select v107 v108 v93
  let c32_i32_47 : BitVec 32 := 32#32
  let v110 : BitVec 32 := Scalar.muli v109 c32_i32_47
  let c1_i32_83 : BitVec 32 := 1#32
  let v180 : BitVec 32 := Scalar.subi v92 v110
  let c0_i32_76 : BitVec 32 := 0#32
  let v182 : BitVec 1 := Scalar.cmpi .sgt v180 c0_i32_76
  let v183 : BitVec 32 := Scalar.extui v182
  let c0_i32_77 : BitVec 32 := 0#32
  let v184 : BitVec 1 := Scalar.cmpi .slt v180 c0_i32_77
  let v185 : BitVec 32 := Scalar.extui v184
  let v186 : BitVec 32 := Scalar.subi v183 v185
  let c32_i32_75 : BitVec 32 := 32#32
  let c0_i32_78 : BitVec 32 := 0#32
  let v187 : BitVec 1 := Scalar.cmpi .sgt c32_i32_75 c0_i32_78
  let v188 : BitVec 32 := Scalar.extui v187
  let c0_i32_79 : BitVec 32 := 0#32
  let v189 : BitVec 1 := Scalar.cmpi .slt c32_i32_75 c0_i32_79
  let v190 : BitVec 32 := Scalar.extui v189
  let v191 : BitVec 32 := Scalar.subi v188 v190
  let v192 : BitVec 1 := Scalar.cmpi .ne v186 v191
  let v193 : BitVec 32 := Scalar.remsi v180 c32_i32_75
  let c0_i32_80 : BitVec 32 := 0#32
  let v194 : BitVec 1 := Scalar.cmpi .ne v193 c0_i32_80
  let v195 : BitVec 1 := Scalar.andi v192 v194
  let v181 : BitVec 32 := Scalar.divsi v180 c32_i32_75
  let c1_i32_81 : BitVec 32 := 1#32
  let v196 : BitVec 32 := Scalar.subi v181 c1_i32_81
  let v197 : BitVec 32 := Scalar.select v195 v196 v181
  let c1_i32_82 : BitVec 32 := 1#32
  let v198 : BitVec 32 := Scalar.addi v197 c1_i32_82
  let v199 : BitVec 32 := Scalar.subi v198 c1_i32_83
  let c1_i32_85 : BitVec 32 := 1#32
  let v201 : BitVec 32 := Scalar.divsi v199 c1_i32_85
  let v202 : BitVec 32 := Scalar.muli v201 c1_i32_85
  let v203 : BitVec 32 := Scalar.addi c1_i32_83 v202
  let c1_i32_87 : BitVec 32 := 1#32
  let arg13 : BitVec 32 := Scf.iv v203 c1_i32_87 k0_t4
  let c32_i32_88 : BitVec 32 := 32#32
  let v206 : BitVec 32 := Scalar.muli arg13 c32_i32_88
  let v207 : BitVec 32 := Scalar.addi v110 v206
  let v215 : Index := Scalar.indexCast v207
  let c0_89 : Index := 0#32
  ![v215.toNat, 0]

def k0_chk4 (i : grid0.Coords) (v88 : BitVec 32) (v92 : BitVec 32) : Prop :=
  (∀ (k0_h3 : k0_cond3 i = 1#1), ∀ (k0_h4 : k0_cond4 v88 v92 = 1#1), (k0_t3_loop v88 v92).OK) ∧
  (∀ k0_t3 : Fin (k0_t3_loop v88 v92).trips, ∀ (k0_h3 : k0_cond3 i = 1#1), ∀ (k0_h4 : k0_cond4 v88 v92 = 1#1), ∀ a, (k0_off5 v88 v92 k0_t3) a + S32x256.size a ≤ S544x256.size a) ∧
  (∀ (k0_h3 : k0_cond3 i = 1#1), ∀ (k0_h4 : k0_cond4 v88 v92 = 1#1), (k0_t4_loop v88 v92).OK) ∧
  (∀ k0_t4 : Fin (k0_t4_loop v88 v92).trips, ∀ (k0_h3 : k0_cond3 i = 1#1), ∀ (k0_h4 : k0_cond4 v88 v92 = 1#1), ∀ a, (k0_off6 v88 v92 k0_t4) a + S32x256.size a ≤ S544x256.size a)
theorem k0_t3_ok : ∀ (i : grid0.Coords) (v88 : BitVec 32) (v92 : BitVec 32) (k0_hw4 : k0_chk4 i v88 v92), ∀ (k0_h3 : k0_cond3 i = 1#1), ∀ (k0_h4 : k0_cond4 v88 v92 = 1#1), (k0_t3_loop v88 v92).OK := fun i v88 v92 k0_hw4 k0_h3 k0_h4 => k0_hw4.1 k0_h3 k0_h4
theorem k0_off5_inb : ∀ (i : grid0.Coords) (v88 : BitVec 32) (v92 : BitVec 32) (k0_hw4 : k0_chk4 i v88 v92) (k0_t3 : Fin (k0_t3_loop v88 v92).trips), ∀ (k0_h3 : k0_cond3 i = 1#1), ∀ (k0_h4 : k0_cond4 v88 v92 = 1#1), ∀ a, (k0_off5 v88 v92 k0_t3) a + S32x256.size a ≤ S544x256.size a := fun i v88 v92 k0_hw4 k0_t3 k0_h3 k0_h4 => k0_hw4.2.1 k0_t3 k0_h3 k0_h4
theorem k0_t4_ok : ∀ (i : grid0.Coords) (v88 : BitVec 32) (v92 : BitVec 32) (k0_hw4 : k0_chk4 i v88 v92), ∀ (k0_h3 : k0_cond3 i = 1#1), ∀ (k0_h4 : k0_cond4 v88 v92 = 1#1), (k0_t4_loop v88 v92).OK := fun i v88 v92 k0_hw4 k0_h3 k0_h4 => k0_hw4.2.2.1 k0_h3 k0_h4
theorem k0_off6_inb : ∀ (i : grid0.Coords) (v88 : BitVec 32) (v92 : BitVec 32) (k0_hw4 : k0_chk4 i v88 v92) (k0_t4 : Fin (k0_t4_loop v88 v92).trips), ∀ (k0_h3 : k0_cond3 i = 1#1), ∀ (k0_h4 : k0_cond4 v88 v92 = 1#1), ∀ a, (k0_off6 v88 v92 k0_t4) a + S32x256.size a ≤ S544x256.size a := fun i v88 v92 k0_hw4 k0_t4 k0_h3 k0_h4 => k0_hw4.2.2.2 k0_t4 k0_h3 k0_h4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6400 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6400 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S320000x128 : Shape := ⟨2, ![320000, 128]⟩
abbrev S320000 : Shape := ⟨1, ![320000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S320000x256 : Shape := ⟨2, ![320000, 256]⟩
abbrev S1x256 : Shape := ⟨2, ![1, 256]⟩
abbrev S_ : Shape := ⟨0, ![]⟩
abbrev S512x256 : Shape := ⟨2, ![512, 256]⟩
abbrev S320000x1 : Shape := ⟨2, ![320000, 1]⟩
abbrev S512x64 : Shape := ⟨2, ![512, 64]⟩
abbrev S1x64 : Shape := ⟨2, ![1, 64]⟩
abbrev S512x1 : Shape := ⟨2, ![512, 1]⟩
abbrev S1x1 : Shape := ⟨2, ![1, 1]⟩

abbrev nBuf : Space → Nat
  | .hbm => 66
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S320000x256, .f32⟩
  | .hbm, ⟨9, _⟩ => ⟨S1x256, .f32⟩
  | .hbm, ⟨10, _⟩ => ⟨S320000x256, .f32⟩
  | .hbm, ⟨11, _⟩ => ⟨S320000x256, .f32⟩
  | .hbm, ⟨12, _⟩ => ⟨S_, .f32⟩
  | .hbm, ⟨13, _⟩ => ⟨S320000x256, .f32⟩
  | .hbm, ⟨14, _⟩ => ⟨S320000x256, .f32⟩
  | .hbm, ⟨15, _⟩ => ⟨S320000x256, .f32⟩
  | .hbm, ⟨16, _⟩ => ⟨S320000x256, .f32⟩
  | .hbm, ⟨17, _⟩ => ⟨S320000x256, .i1⟩
  | .hbm, ⟨18, _⟩ => ⟨S320000x256, .f32⟩
  | .hbm, ⟨19, _⟩ => ⟨S320000x256, .f32⟩
  | .hbm, ⟨20, _⟩ => ⟨S320000x256, .f32⟩
  | .hbm, ⟨21, _⟩ => ⟨S320000x256, .f32⟩
  | .hbm, ⟨22, _⟩ => ⟨S320000x256, .f32⟩
  | .hbm, ⟨23, _⟩ => ⟨S320000x256, .f32⟩
  | .hbm, ⟨24, _⟩ => ⟨S320000x256, .f32⟩
  | .hbm, ⟨25, _⟩ => ⟨S320000x256, .f32⟩
  | .hbm, ⟨26, _⟩ => ⟨S_, .f32⟩
  | .hbm, ⟨27, _⟩ => ⟨S512x256, .f32⟩
  | .hbm, ⟨28, _⟩ => ⟨S320000x1, .i32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S512x256, .f32⟩
  | .hbm, ⟨35, _⟩ => ⟨S512x256, .i1⟩
  | .hbm, ⟨36, _⟩ => ⟨S512x256, .f32⟩
  | .hbm, ⟨37, _⟩ => ⟨S512x256, .f32⟩
  | .hbm, ⟨38, _⟩ => ⟨S512x256, .f32⟩
  | .hbm, ⟨39, _⟩ => ⟨S512x256, .f32⟩
  | .hbm, ⟨40, _⟩ => ⟨S512x256, .f32⟩
  | .hbm, ⟨41, _⟩ => ⟨S512x256, .f32⟩
  | .hbm, ⟨42, _⟩ => ⟨S512x256, .f32⟩
  | .hbm, ⟨43, _⟩ => ⟨S512x256, .f32⟩
  | .hbm, ⟨44, _⟩ => ⟨S512x64, .f32⟩
  | .hbm, ⟨45, _⟩ => ⟨S1x64, .f32⟩
  | .hbm, ⟨46, _⟩ => ⟨S512x64, .f32⟩
  | .hbm, ⟨47, _⟩ => ⟨S512x64, .f32⟩
  | .hbm, ⟨48, _⟩ => ⟨S_, .f32⟩
  | .hbm, ⟨49, _⟩ => ⟨S512x64, .f32⟩
  | .hbm, ⟨50, _⟩ => ⟨S512x64, .f32⟩
  | .hbm, ⟨51, _⟩ => ⟨S512x64, .f32⟩
  | .hbm, ⟨52, _⟩ => ⟨S512x64, .f32⟩
  | .hbm, ⟨53, _⟩ => ⟨S512x64, .i1⟩
  | .hbm, ⟨54, _⟩ => ⟨S512x64, .f32⟩
  | .hbm, ⟨55, _⟩ => ⟨S512x64, .f32⟩
  | .hbm, ⟨56, _⟩ => ⟨S512x64, .f32⟩
  | .hbm, ⟨57, _⟩ => ⟨S512x64, .f32⟩
  | .hbm, ⟨58, _⟩ => ⟨S512x64, .f32⟩
  | .hbm, ⟨59, _⟩ => ⟨S512x64, .f32⟩
  | .hbm, ⟨60, _⟩ => ⟨S512x64, .f32⟩
  | .hbm, ⟨61, _⟩ => ⟨S512x64, .f32⟩
  | .hbm, ⟨62, _⟩ => ⟨S512x1, .f32⟩
  | .hbm, ⟨63, _⟩ => ⟨S1x1, .f32⟩
  | .hbm, ⟨64, _⟩ => ⟨S512x1, .f32⟩
  | .hbm, ⟨65, _⟩ => ⟨S512x1, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_call1_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_call2_cst : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_v5 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩

abbrev nD : Nat := 1
abbrev τ : Topo := Topo.v7x

variable {F : FTy → Type} [FloatOps F]
-- ==== Proof.PreDecode.lean ====
/-
  What the precondition says: every segment id is below 512.
-/
module

public import proofs.«01_k».proof.Proof.Gen.Pre_in_range
public import Idealize.ShloMosaic.Lib.ReduceAll

@[expose] public section

noncomputable section

open Idealize.ShloMosaic

namespace Cert.Proof

open Cert.Pre_in_range Cert.Pre_in_range.Gen

/-- The precondition, evaluated to all ones, bounds every id. -/
theorem ids_lt {F : FTy → Type} [FloatOps F] (a0 : FVec F S320000x128 .f32) (a1 : IVec S320000 32) (a2 : FVec F S128x256 .f32)
    (a3 : FVec F S256 .f32) (a4 : FVec F S256x64 .f32) (a5 : FVec F S64 .f32) (a6 : FVec F S64x1 .f32) (a7 : FVec F S1 .f32)
    (h : Cert.Pre_in_range.fn a0 a1 a2 a3 a4 a5 a6 a7 = fun _ => 1#1) (y : S320000.Idx) : (a1 y).toNat < 512 := by
  have e0 := congrFun h (fun a => a.elim0)
  haveI : Subsingleton S_.Idx := ⟨fun a b => funext fun x => x.elim0⟩
  have e := Host.reduce_andi_all _ _ _ _ _ e0 y
  have key : ∀ w : BitVec 32, IntOp.andi (IntOp.cmpi .sge w 0#32) (IntOp.cmpi .slt w 512#32) = 1#1 → w.toNat < 512 := by
    intro w hw
    simp only [IntOp.cmpi, IntOp.andi] at hw
    have h1 : w.slt 512#32 = true ∧ (0#32).sle w = true := by
      revert hw
      cases (0#32).sle w <;> cases w.slt 512#32 <;> simp
    obtain ⟨hlt, hge⟩ := h1
    simp only [BitVec.sle, BitVec.slt, decide_eq_true_eq, BitVec.toInt, BitVec.toNat_ofNat] at hge hlt
    have := w.isLt
    omega
  exact key _ e

end Cert.Proof

end
-- ==== Proof.Words.lean ====
/-
  Scalar word arithmetic of the kernel: the floor division by 32 the kernel spells with signed division, signed
  remainder and comparisons, evaluated at small nonnegative words, and the trip counts and offsets built from it.
-/
module

public import proofs.«01_k».proof.Proof.Gen.KernelIdeal
public import Idealize.ShloMosaic.Lib.Scf

@[expose] public section

open Idealize.ShloMosaic

namespace Cert.Proof.Words

/-- Floor division of a word by 32, spelt as the kernel spells it. -/
def fdiv (v : BitVec 32) : BitVec 32 :=
  Scalar.select
    (Scalar.andi
      (Scalar.cmpi .ne
        (Scalar.subi (Scalar.extui (Scalar.cmpi .sgt v 0#32)) (Scalar.extui (Scalar.cmpi .slt v 0#32)) : BitVec 32)
        (Scalar.subi (Scalar.extui (Scalar.cmpi .sgt 32#32 0#32)) (Scalar.extui (Scalar.cmpi .slt 32#32 0#32))))
      (Scalar.cmpi .ne (Scalar.remsi v 32#32) 0#32))
    (Scalar.subi (Scalar.divsi v 32#32) 1#32) (Scalar.divsi v 32#32)

/-- The word from which the tile holding the minimum starts. -/
def base (lo : BitVec 32) : BitVec 32 := Scalar.muli (fdiv lo) 32#32

/-- How many tiles follow that one, up to the tile holding the maximum, as the loop's bounds spell it. -/
def more (lo hi : BitVec 32) : BitVec 32 :=
  Scalar.subi (Scalar.addi (fdiv (Scalar.subi hi (base lo))) 1#32) 1#32

/-- The upper bound of the loop over the following tiles, as its unrolled part spells it. -/
def lastTile (lo hi : BitVec 32) : BitVec 32 :=
  Scalar.addi 1#32 (Scalar.muli (Scalar.divsi (more lo hi) 1#32) 1#32)

/-- The same upper bound, as the remainder part of the loop spells it. -/
def endTile (lo hi : BitVec 32) : BitVec 32 := Scalar.addi 1#32 (more lo hi)

/-- The word from which the tile of trip `k` starts. -/
def tileBase (lo : BitVec 32) (k : ℕ) : BitVec 32 := Scalar.addi (base lo) (Scalar.muli (Scf.iv 1#32 1#32 k) 32#32)

/-- Whether the ids reach past the first tile, as a word of one bit. -/
def spills (lo hi : BitVec 32) : BitVec 1 :=
  Scalar.cmpi .ne (Scalar.extui (Scalar.cmpi .sge (Scalar.subi hi (base lo)) 32#32) : BitVec 32) 0#32

/-- On words below 1024 the floor division is the natural one. -/
theorem fdiv_ofNat : ∀ n : Fin 1024, fdiv (BitVec.ofNat 32 n.val) = BitVec.ofNat 32 (n.val / 32) := by decide +kernel

/-- The bounds of the loop at a small quotient. -/
theorem bounds_ofNat : ∀ n : Fin 64,
    Scalar.subi (Scalar.addi (BitVec.ofNat 32 n.val) 1#32) 1#32 = BitVec.ofNat 32 n.val
    ∧ Scalar.addi 1#32 (Scalar.muli (Scalar.divsi (BitVec.ofNat 32 n.val) 1#32) 1#32) = BitVec.ofNat 32 (n.val + 1)
    ∧ Scalar.addi 1#32 (BitVec.ofNat 32 n.val) = BitVec.ofNat 32 (n.val + 1)
    ∧ Scf.trips (1#32 : BitVec 32) (BitVec.ofNat 32 (n.val + 1)) 1#32 = n.val
    ∧ Scf.OK (1#32 : BitVec 32) (BitVec.ofNat 32 (n.val + 1)) 1#32
    ∧ Scf.trips (BitVec.ofNat 32 (n.val + 1)) (BitVec.ofNat 32 (n.val + 1)) 1#32 = 0
    ∧ Scf.OK (BitVec.ofNat 32 (n.val + 1)) (BitVec.ofNat 32 (n.val + 1)) 1#32 := by decide +kernel

/-- The comparison with 32 on small words is the natural one. -/
theorem sge_ofNat : ∀ n : Fin 1024,
    Scalar.cmpi .ne (Scalar.extui (Scalar.cmpi .sge (BitVec.ofNat 32 n.val) 32#32) : BitVec 32) 0#32 = 1#1
      ↔ 32 ≤ n.val := by decide +kernel

/-- Subtraction of small words, the smaller from the larger, is the natural one. -/
theorem sub_ofNat (a b : ℕ) (hab : b ≤ a) (ha : a < 1024) :
    Scalar.subi (BitVec.ofNat 32 a) (BitVec.ofNat 32 b) = BitVec.ofNat 32 (a - b) := by
  show BitVec.ofNat 32 a - BitVec.ofNat 32 b = _
  apply BitVec.eq_of_toNat_eq
  simp only [BitVec.toNat_sub, BitVec.toNat_ofNat]
  omega

/-- The first tile's start is the minimum rounded down to a multiple of 32. -/
theorem base_ofNat (a : ℕ) (ha : a < 1024) : base (BitVec.ofNat 32 a) = BitVec.ofNat 32 (a / 32 * 32) := by
  unfold base
  rw [fdiv_ofNat ⟨a, ha⟩]
  show BitVec.ofNat 32 (a / 32) * BitVec.ofNat 32 32 = _
  apply BitVec.eq_of_toNat_eq
  simp only [BitVec.toNat_mul, BitVec.toNat_ofNat]
  omega

/-- The number of tiles after the first. -/
abbrev extra (a b : ℕ) : ℕ := (b - a / 32 * 32) / 32

/-- There are fewer than 64 tiles after the first. -/
theorem extra_lt (a b : ℕ) (hb : b < 1024) : extra a b < 64 := by unfold extra; omega

/-- The computed number of further tiles is the natural one. -/
theorem more_ofNat (a b : ℕ) (hab : a ≤ b) (hb : b < 1024) :
    more (BitVec.ofNat 32 a) (BitVec.ofNat 32 b) = BitVec.ofNat 32 (extra a b) := by
  unfold more
  rw [base_ofNat a (by omega), sub_ofNat b _ (by omega) hb, fdiv_ofNat ⟨b - a / 32 * 32, by omega⟩]
  exact (bounds_ofNat ⟨extra a b, extra_lt a b hb⟩).1

/-- The upper bound of the loop is one past the number of further tiles. -/
theorem lastTile_ofNat (a b : ℕ) (hab : a ≤ b) (hb : b < 1024) :
    lastTile (BitVec.ofNat 32 a) (BitVec.ofNat 32 b) = BitVec.ofNat 32 (extra a b + 1) := by
  unfold lastTile
  rw [more_ofNat a b hab hb]
  exact (bounds_ofNat ⟨extra a b, extra_lt a b hb⟩).2.1

/-- The upper bound of the remainder is that same word. -/
theorem endTile_ofNat (a b : ℕ) (hab : a ≤ b) (hb : b < 1024) :
    endTile (BitVec.ofNat 32 a) (BitVec.ofNat 32 b) = BitVec.ofNat 32 (extra a b + 1) := by
  unfold endTile
  rw [more_ofNat a b hab hb]
  exact (bounds_ofNat ⟨extra a b, extra_lt a b hb⟩).2.2.1

/-- The loop over the following tiles makes one trip per tile. -/
theorem trips_more (a b : ℕ) (hab : a ≤ b) (hb : b < 1024) :
    Scf.trips 1#32 (lastTile (BitVec.ofNat 32 a) (BitVec.ofNat 32 b)) 1#32 = extra a b := by
  rw [lastTile_ofNat a b hab hb]
  exact (bounds_ofNat ⟨extra a b, extra_lt a b hb⟩).2.2.2.1

/-- The loop over the following tiles has well-formed bounds. -/
theorem ok_more (a b : ℕ) (hab : a ≤ b) (hb : b < 1024) :
    Scf.OK 1#32 (lastTile (BitVec.ofNat 32 a) (BitVec.ofNat 32 b)) 1#32 := by
  rw [lastTile_ofNat a b hab hb]
  exact (bounds_ofNat ⟨extra a b, extra_lt a b hb⟩).2.2.2.2.1

/-- The remainder part of the loop makes no trip. -/
theorem trips_end (a b : ℕ) (hab : a ≤ b) (hb : b < 1024) :
    Scf.trips (lastTile (BitVec.ofNat 32 a) (BitVec.ofNat 32 b)) (endTile (BitVec.ofNat 32 a) (BitVec.ofNat 32 b)) 1#32
      = 0 := by
  rw [lastTile_ofNat a b hab hb, endTile_ofNat a b hab hb]
  exact (bounds_ofNat ⟨extra a b, extra_lt a b hb⟩).2.2.2.2.2.1

/-- The remainder of the loop has well-formed bounds. -/
theorem ok_end (a b : ℕ) (hab : a ≤ b) (hb : b < 1024) :
    Scf.OK (lastTile (BitVec.ofNat 32 a) (BitVec.ofNat 32 b)) (endTile (BitVec.ofNat 32 a) (BitVec.ofNat 32 b)) 1#32 := by
  rw [lastTile_ofNat a b hab hb, endTile_ofNat a b hab hb]
  exact (bounds_ofNat ⟨extra a b, extra_lt a b hb⟩).2.2.2.2.2.2

/-- The ids reach past the first tile when the loop has a trip to make. -/
theorem spills_iff (a b : ℕ) (hab : a ≤ b) (hb : b < 1024) :
    spills (BitVec.ofNat 32 a) (BitVec.ofNat 32 b) = 1#1 ↔ 0 < extra a b := by
  unfold spills
  rw [base_ofNat a (by omega), sub_ofNat b _ (by omega) hb, sge_ofNat ⟨b - a / 32 * 32, by omega⟩]
  show 32 ≤ b - a / 32 * 32 ↔ 0 < (b - a / 32 * 32) / 32
  omega

/-- Trip `k` works on the tile `k + 1` places after the first. -/
theorem tileBase_ofNat (a k : ℕ) (ha : a < 1024) (hk : k < 1024) :
    tileBase (BitVec.ofNat 32 a) k = BitVec.ofNat 32 (a / 32 * 32 + 32 * (k + 1)) := by
  unfold tileBase
  rw [base_ofNat a ha]
  show BitVec.ofNat 32 _ + (1#32 + BitVec.ofNat 32 k * 1#32) * 32#32 = _
  apply BitVec.eq_of_toNat_eq
  simp only [BitVec.toNat_add, BitVec.toNat_mul, BitVec.toNat_ofNat]
  omega

end Cert.Proof.Words
-- ==== Proof.OwnRules.lean ====
/-
  Loads and stores through a memref held whole at the vector read through it.
-/
module

public import Idealize.ShloMosaic.Lib.Memref
public import Idealize.ShloMosaic.Lib.Tactic
public import Idealize.ShloMosaic.Lib.VecWindow
public import Idealize.ShloMosaic.Lib.WritesUnit
public import Idealize.ShloMosaic.Lib.Pipeline.FrameBody
public import Idealize.ShloMosaic.Lib.Pipeline.Value

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Proof.OwnRules

variable {nD : Nat} {τ : Topo} {sig : RefSig} {Val : EltTy → Type} {Λ : Labels}
variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Thread nD τ) (bd : Option 𝒱.V) (E : Set Name)
variable {cs : CoreSpace} {s : Shape} {e : EltTy}

/-- A load gives the rectangle of the vector held, which is kept. -/
theorem load {m : Memref sig c.2.kind cs s e} {r : Rect s} {hl : m.view.LoadsAt r}
    {X : s.Idx → Val e} {Q : (r.shape.Idx → Val e) → sProp 𝕄} :
    iprop(owns c m fullShare X ∗ (owns c m fullShare X -∗ Q (View.ld X r)))
      ⊢ wp frame (wpE defs 𝒱 c bd) E (Prog.lift (.load m r hl)) Q := by
  rw [show (Prog.lift (.load m r hl) : Prog (TpuEff nD τ sig Val Λ c.2) _)
    = .op (.load m r hl) fun x => .ret x from rfl]
  unfold owns
  iintro ⟨⟨%f, %hf, H⟩, HQ⟩
  iapply (wp_load (Val := Val) (Γ := ∅) 𝒱 c bd E (m.view.setOn_subset_set _)) $$ H
  iintro H
  rw [wp_ret, View.readAt_eq_ld, hf]
  imodintro
  iapply HQ
  iexists f; isplitr; · ipureintro; exact hf
  iexact H

/-- A store of a unit-stride rectangle leaves the vector held with that rectangle replaced. -/
theorem store {m : Memref sig c.2.kind cs s e} {off size : Fin s.rank → ℕ} {inb : ∀ a, off a + size a ≤ s.size a}
    {w : (⟨s.rank, size⟩ : Shape).Idx → Val e} {hx : (m.access (Rect.unit off size inb)).Stores Finset.univ}
    {hm : _} {X : s.Idx → Val e} {Q : PUnit → sProp 𝕄} :
    iprop(owns c m fullShare X ∗ (owns c m fullShare (VecWindow.put X off size w) -∗ Q ⟨⟩))
      ⊢ wp frame (wpE defs 𝒱 c bd) E (Prog.lift (.store m (Rect.unit off size inb) w Finset.univ hx hm)) Q := by
  rw [show (Prog.lift (.store m (Rect.unit off size inb) w Finset.univ hx hm) : Prog (TpuEff nD τ sig Val Λ c.2) _)
    = .op (.store m (Rect.unit off size inb) w Finset.univ hx hm) fun x => .ret x from rfl]
  unfold owns
  iintro ⟨⟨%f, %hf, H⟩, HQ⟩
  iapply (wp_store (Val := Val) (Γ := ∅) 𝒱 c bd E (show (m.access (Rect.unit off size inb)).setOn Finset.univ ⊆ m.view.set
    from (View.setOn_subset_set _ _).trans (View.set_slice_subset _ _))) $$ H
  iintro H
  rw [wp_ret]
  imodintro
  iapply HQ
  iexists _; isplitr
  swap
  · iexact H
  ipureintro
  funext y
  refine (View.read_writes_cons_unit m.view f inb w [] y rfl).trans ?_
  rw [View.writes_nil, hf]
  rfl

/-- A load of the whole vector gives it. -/
theorem loadW {m : Memref sig c.2.kind cs s e} {off : Fin s.rank → ℕ} {inb : ∀ a, off a + s.size a ≤ s.size a}
    {hl : m.view.LoadsAt (Rect.unit off s.size inb).toLoadRect} (h0 : ∀ a, off a = 0)
    {X : s.Idx → Val e} {Q : (s.Idx → Val e) → sProp 𝕄} :
    iprop(owns c m fullShare X ∗ (owns c m fullShare X -∗ Q X))
      ⊢ wp frame (wpE defs 𝒱 c bd) E (Prog.lift (.load m (Rect.unit off s.size inb).toLoadRect hl)) Q := by
  have h := load (defs := defs) 𝒱 c bd E (m := m) (hl := hl) (X := X) (Q := Q)
  rwa [View.ld_unit_zero (S := s) (funext h0) inb X] at h

/-- The whole vector replaced. -/
theorem put_whole {α : Type} (X : s.Idx → α) {off : Fin s.rank → ℕ} (h0 : ∀ a, off a = 0)
    (w : (⟨s.rank, s.size⟩ : Shape).Idx → α) : VecWindow.put X off s.size w = w := by
  funext y
  unfold VecWindow.put
  rw [dif_pos fun a => ⟨by rw [h0 a]; omega, by rw [h0 a, Nat.zero_add]; exact (y a).isLt⟩]
  refine congrArg w (funext fun a => Fin.ext ?_)
  rw [Rect.unitLocal_val, h0 a, Nat.sub_zero]

/-- A store of the whole vector leaves the vector stored. -/
theorem storeW {m : Memref sig c.2.kind cs s e} {off : Fin s.rank → ℕ} {inb : ∀ a, off a + s.size a ≤ s.size a}
    {w : (⟨s.rank, s.size⟩ : Shape).Idx → Val e} {hx : (m.access (Rect.unit off s.size inb)).Stores Finset.univ}
    {hm : _} (h0 : ∀ a, off a = 0) {X : s.Idx → Val e} {Q : PUnit → sProp 𝕄} :
    iprop(owns c m fullShare X ∗ (owns c m fullShare (w : s.Idx → Val e) -∗ Q ⟨⟩))
      ⊢ wp frame (wpE defs 𝒱 c bd) E (Prog.lift (.store m (Rect.unit off s.size inb) w Finset.univ hx hm)) Q := by
  have h := store (defs := defs) 𝒱 c bd E (m := m) (w := w) (hx := hx) (hm := hm) (X := X) (Q := Q)
  rwa [put_whole X h0 w] at h

/-- A store of a unit-stride rectangle, with the vector it leaves given by an equation. -/
theorem storeAs {m : Memref sig c.2.kind cs s e} {off size : Fin s.rank → ℕ} {inb : ∀ a, off a + size a ≤ s.size a}
    {w : (⟨s.rank, size⟩ : Shape).Idx → Val e} {hx : (m.access (Rect.unit off size inb)).Stores Finset.univ}
    {hm : _} {X Z : s.Idx → Val e} (hZ : VecWindow.put X off size w = Z) {Q : PUnit → sProp 𝕄} :
    iprop(owns c m fullShare X ∗ (owns c m fullShare Z -∗ Q ⟨⟩))
      ⊢ wp frame (wpE defs 𝒱 c bd) E (Prog.lift (.store m (Rect.unit off size inb) w Finset.univ hx hm)) Q := by
  have h := store (defs := defs) 𝒱 c bd E (m := m) (w := w) (hx := hx) (hm := hm) (X := X) (Q := Q)
  rwa [hZ] at h

/-- A side condition that holds passes, giving a proof of it. -/
theorem check {P : Prop} {d : Decidable P} (h : P) {Q : PLift P → sProp 𝕄} :
    Q ⟨h⟩ ⊢ wp frame (wpE defs 𝒱 c bd) E (Prog.lift (.assume P d)) Q := by
  rw [show (Prog.lift (.assume P d) : Prog (TpuEff nD τ sig Val Λ c.2) _) = .op (.assume P d) fun x => .ret x from rfl]
  refine BIBase.Entails.trans ?_ (wp_assume (Γ := ∅) 𝒱 c bd E h)
  rw [wp_ret]
  exact BI.fupd_intro

end Cert.Proof.OwnRules
-- ==== Proof.KernelIdealWords.lean ====
/-
  The offsets, loops and conditions of the named program in terms of the word arithmetic of `Words`, and the side
  conditions its body assumes, from ids of at most 512.
-/
module

public import proofs.«01_k».proof.Proof.Words

@[expose] public section

open Idealize.ShloMosaic

namespace Cert.Proof.KI

open Cert.KernelIdeal Cert.Proof.Words

/-- The first tile of the previous block starts at the smallest id rounded down. -/
theorem off1_eq (v : BitVec 32) : k0_off1 v = ![(base v).toNat, 0] := rfl
/-- The first tile of the current block starts at the smallest id rounded down. -/
theorem off4_eq (v : BitVec 32) : k0_off4 v = ![(base v).toNat, 0] := rfl
/-- The bounds of the previous block's loop over the following tiles. -/
theorem loop1_eq (v w : BitVec 32) : k0_t1_loop v w = ⟨1#32, lastTile v w, 1#32⟩ := rfl
/-- The bounds of the remainder of the previous block's loop. -/
theorem loop2_eq (v w : BitVec 32) : k0_t2_loop v w = ⟨lastTile v w, endTile v w, 1#32⟩ := rfl
/-- The bounds of the current block's loop over the following tiles. -/
theorem loop3_eq (v w : BitVec 32) : k0_t3_loop v w = ⟨1#32, lastTile v w, 1#32⟩ := rfl
/-- The bounds of the remainder of the current block's loop. -/
theorem loop4_eq (v w : BitVec 32) : k0_t4_loop v w = ⟨lastTile v w, endTile v w, 1#32⟩ := rfl
/-- The tile of a trip of the previous block's loop starts at that trip's row. -/
theorem off2_eq (v w : BitVec 32) (k : Fin (k0_t1_loop v w).trips) : k0_off2 v w k = ![(tileBase v k).toNat, 0] := rfl
/-- The tile of a trip of the current block's loop starts at that trip's row. -/
theorem off5_eq (v w : BitVec 32) (k : Fin (k0_t3_loop v w).trips) : k0_off5 v w k = ![(tileBase v k).toNat, 0] := rfl
/-- The previous block's loop is entered when the ids spill past the first tile. -/
theorem cond2_eq (v w : BitVec 32) : k0_cond2 v w = spills v w := rfl
/-- The current block's loop is entered when the ids spill past the first tile. -/
theorem cond4_eq (v w : BitVec 32) : k0_cond4 v w = spills v w := rfl

/-- A tile that ends inside the accumulator is in bounds. -/
theorem tile_inb {n : ℕ} (hn : n ≤ 512) : ∀ a, (![(BitVec.ofNat 32 n).toNat, 0] : Fin 2 → ℕ) a + S32x256.size a ≤ S544x256.size a := by
  intro a
  fin_cases a
  · show (BitVec.ofNat 32 n).toNat + 32 ≤ 544
    rw [BitVec.toNat_ofNat]; omega
  · show 0 + 256 ≤ 256; omega

section
variable {a b : ℕ} (hab : a ≤ b) (hb : b ≤ 512)
include hab hb

/-- The previous block's first tile is in bounds. -/
theorem chk1 : k0_chk1 (BitVec.ofNat 32 a) := by
  show ∀ x, k0_off1 (BitVec.ofNat 32 a) x + S32x256.size x ≤ S544x256.size x
  rw [off1_eq, base_ofNat a (by omega)]
  exact tile_inb (by omega)

/-- The current block's first tile is in bounds. -/
theorem chk3 (i : grid0.Coords) : k0_chk3 i (BitVec.ofNat 32 a) := fun _ => chk1 hab hb

/-- The loop over the following tiles makes one trip per tile after the first. -/
theorem trips1 : (k0_t1_loop (BitVec.ofNat 32 a) (BitVec.ofNat 32 b)).trips = extra a b :=
  trips_more a b hab (by omega)

/-- The remainder of the loop makes no trip. -/
theorem trips2 : (k0_t2_loop (BitVec.ofNat 32 a) (BitVec.ofNat 32 b)).trips = 0 :=
  trips_end a b hab (by omega)

/-- The previous block's loop is well formed and each of its tiles is in bounds. -/
theorem chk2 : k0_chk2 (BitVec.ofNat 32 a) (BitVec.ofNat 32 b) := by
  refine ⟨fun _ => ok_more a b hab (by omega), fun k _ => ?_, fun _ => ok_end a b hab (by omega), fun k _ => ?_⟩
  · have hk : k.val < extra a b := lt_of_lt_of_eq k.isLt (trips1 hab hb)
    unfold extra at hk
    rw [off2_eq, tileBase_ofNat a k.val (by omega) (by omega)]
    exact tile_inb (by omega)
  · exact absurd (lt_of_lt_of_eq k.isLt (trips2 hab hb)) (by omega)

/-- The current block's loop is well formed and each of its tiles is in bounds. -/
theorem chk4 (i : grid0.Coords) : k0_chk4 i (BitVec.ofNat 32 a) (BitVec.ofNat 32 b) :=
  ⟨fun _ => (chk2 hab hb).1, fun k _ => (chk2 hab hb).2.1 k, fun _ => (chk2 hab hb).2.2.1, fun k _ => (chk2 hab hb).2.2.2 k⟩
end

end Cert.Proof.KI
-- ==== Proof.KernelIdealSpec.lean ====
/-
  What one reduction of a block into the accumulator leaves, as functions of vectors: one tile of 32 rows added to, the
  tiles from the one holding the smallest id to the one holding the largest added to in turn.
-/
module

public import proofs.«01_k».proof.Proof.KernelIdealWords
public import proofs.«01_k».proof.Proof.Gen.KernelIdeal.Skeleton
public import Idealize.ShloMosaic.PureOps.Reduce
public import Idealize.ShloMosaic.Lib.VecWindow
public import Idealize.ShloMosaic.Lib.Pipeline.Value

@[expose] public section

noncomputable section

open Idealize.ShloMosaic

namespace Cert.Proof.KI

open Cert.KernelIdeal Cert.KernelIdeal.Gen Cert.Proof.Words

/-- The smallest id of a block, as the body reads it. -/
def lo {F : FTy → Type} [FloatOps F] (ids : Vec F S1x1x6400 .i32) : BitVec 32 :=
  extractAt ![0, 0, 0] (k0_pay19 ids) inpos_S1x1x1_p0_0_0

/-- The largest id of a block, as the body reads it. -/
def hi {F : FTy → Type} [FloatOps F] (ids : Vec F S1x1x6400 .i32) : BitVec 32 :=
  extractAt ![0, 0, 0] (k0_pay20 ids) inpos_S1x1x1_p0_0_0

/-- The smallest id of the current block, as the last point reads it: the same extraction. -/
def lo2 {F : FTy → Type} [FloatOps F] (ids : Vec F S1x1x6400 .i32) : BitVec 32 :=
  extractAt ![0, 0, 0] (k0_pay4 ids) inpos_S1x1x1_p0_0_0

/-- The largest id of the current block, as the last point reads it: the same extraction. -/
def hi2 {F : FTy → Type} [FloatOps F] (ids : Vec F S1x1x6400 .i32) : BitVec 32 :=
  extractAt ![0, 0, 0] (k0_pay5 ids) inpos_S1x1x1_p0_0_0

/-- The last point's smallest id of the current block is the block's smallest id. -/
theorem lo2_eq {F : FTy → Type} [FloatOps F] (ids : Vec F S1x1x6400 .i32) : lo2 ids = lo ids := by
  unfold lo2 lo k0_pay4 k0_pay19 k0_pay2 k0_pay17
  rfl

/-- The last point's largest id of the current block is the block's largest id. -/
theorem hi2_eq {F : FTy → Type} [FloatOps F] (ids : Vec F S1x1x6400 .i32) : hi2 ids = hi ids := by
  unfold hi2 hi k0_pay5 k0_pay20 k0_pay2 k0_pay17
  rfl

section Bounds

variable {α : Type} [DecidableEq α]

/-- The signed minimum of two words, as an integer. -/
theorem toInt_minsi (x y : BitVec 32) : (IKind.minsi.op x y).toInt = min x.toInt y.toInt := by
  show (IntOp.minsi x y).toInt = _
  unfold IntOp.minsi
  split <;> rename_i h <;> rw [BitVec.slt_iff_toInt_lt] at h <;> omega

/-- The signed maximum of two words, as an integer. -/
theorem toInt_maxsi (x y : BitVec 32) : (IKind.maxsi.op x y).toInt = max x.toInt y.toInt := by
  show (IntOp.maxsi x y).toInt = _
  unfold IntOp.maxsi
  split <;> rename_i h <;> rw [BitVec.slt_iff_toInt_lt] at h <;> omega

/-- A fold of signed minima over words is below each of them and above what all of them are above. -/
theorem fold_min (f : α → BitVec 32) (L : ℤ) (hL : L ≤ 2147483647) (hf : ∀ x, L ≤ (f x).toInt) (s : Finset α) :
    (∀ x ∈ s, (s.fold IKind.minsi.op 2147483647#32 f).toInt ≤ (f x).toInt)
      ∧ L ≤ (s.fold IKind.minsi.op 2147483647#32 f).toInt := by
  induction s using Finset.induction_on with
  | empty => simpa using hL
  | insert a s ha ih =>
    rw [Finset.fold_insert ha, toInt_minsi]
    have := hf a
    refine ⟨fun x hx => ?_, by omega⟩
    rcases Finset.mem_insert.mp hx with rfl | hx
    · omega
    · have := ih.1 x hx
      omega

/-- A fold of signed maxima over words is above each of them and below what all of them are below. -/
theorem fold_max (f : α → BitVec 32) (M : ℤ) (hM : -2147483648 ≤ M) (hf : ∀ x, (f x).toInt ≤ M) (s : Finset α) :
    (∀ x ∈ s, (f x).toInt ≤ (s.fold IKind.maxsi.op 2147483648#32 f).toInt)
      ∧ (s.fold IKind.maxsi.op 2147483648#32 f).toInt ≤ M := by
  induction s using Finset.induction_on with
  | empty => simpa using hM
  | insert a s ha ih =>
    rw [Finset.fold_insert ha, toInt_maxsi]
    have := hf a
    refine ⟨fun x hx => ?_, by omega⟩
    rcases Finset.mem_insert.mp hx with rfl | hx
    · omega
    · have := ih.1 x hx
      omega

end Bounds

section Range

variable {F : FTy → Type} [FloatOps F]

/-- A vector of one element has one index. -/
theorem S1_eq (x y : S1.Idx) : x = y := funext fun a => Fin.ext (by
  have hx : (x a).val < 1 := lt_of_lt_of_eq (x a).isLt (by fin_cases a; rfl)
  have hy : (y a).val < 1 := lt_of_lt_of_eq (y a).isLt (by fin_cases a; rfl)
  omega)

/-- The one element of a vector of one element, cast to rank 3. -/
theorem extract_one (w : IVec S1 32) (h : S1.ShapeCasts S1x1x1) (j : S1.Idx) :
    extractAt ![0, 0, 0] (shapeCast S1x1x1 w h) inpos_S1x1x1_p0_0_0 = w j :=
  congrArg w (S1_eq _ _)

/-- The smallest and the largest id of a block whose ids lie between two naturals, as natural numbers. -/
theorem lo_hi_between (ids : Vec F S1x1x6400 .i32) (L M : ℕ) (hM : M ≤ 512) (h : ∀ x, L ≤ (ids x).toNat ∧ (ids x).toNat ≤ M) :
    ∃ a b : ℕ, lo ids = BitVec.ofNat 32 a ∧ hi ids = BitVec.ofNat 32 b ∧ L ≤ a ∧ a ≤ b ∧ b ≤ M
      ∧ ∀ x, a ≤ (ids x).toNat ∧ (ids x).toNat ≤ b := by
  have hInt : ∀ x, (ids x).toInt = ((ids x).toNat : ℤ) := fun x => by
    have := h x
    rw [BitVec.toInt_eq_toNat_cond, if_pos (by omega)]
  have elo : lo ids = Finset.univ.fold IKind.minsi.op 2147483647#32 (shapeCast S1x1x6400
      (shapeCast S1x6400 ids shapeCasts_S1x1x6400_S1x6400) shapeCasts_S1x6400_S1x1x6400) := by
    unfold lo k0_pay19 k0_pay17
    refine (extract_one _ _ (fun a => ⟨0, by fin_cases a; decide⟩)).trans
      ((multiReductionI_eq_fold .minsi _ _ reduces_S1x1x6400_S1 rfl _).trans ?_)
    rw [Finset.filter_true_of_mem fun i _ => S1_eq _ _,
      show IKind.minsi.neutral = 2147483647#32 from rfl]
  have ehi : hi ids = Finset.univ.fold IKind.maxsi.op 2147483648#32 (shapeCast S1x1x6400
      (shapeCast S1x6400 ids shapeCasts_S1x1x6400_S1x6400) shapeCasts_S1x6400_S1x1x6400) := by
    unfold hi k0_pay20 k0_pay17
    refine (extract_one _ _ (fun a => ⟨0, by fin_cases a; decide⟩)).trans
      ((multiReductionI_eq_fold .maxsi _ _ reduces_S1x1x6400_S1 rfl _).trans ?_)
    rw [Finset.filter_true_of_mem fun i _ => S1_eq _ _,
      show IKind.maxsi.neutral = 2147483648#32 from rfl]
  have hc : shapeCast S1x1x6400 (shapeCast S1x6400 ids shapeCasts_S1x1x6400_S1x6400) shapeCasts_S1x6400_S1x1x6400 = ids :=
    shapeCast_shapeCast _ _ _
  rw [hc] at elo ehi
  obtain ⟨m1, m2⟩ := fold_min ids (L : ℤ) (by have := h (fun a => ⟨0, by fin_cases a <;> decide⟩); omega) (fun x => by have := h x; rw [hInt]; omega) Finset.univ
  obtain ⟨M1, M2⟩ := fold_max ids (M : ℤ) (by omega) (fun x => by have := h x; rw [hInt]; omega) Finset.univ
  rw [← elo] at m1 m2; rw [← ehi] at M1 M2
  have hx := m1 (fun a => ⟨0, by fin_cases a <;> decide⟩) (Finset.mem_univ _)
  have hX := M1 (fun a => ⟨0, by fin_cases a <;> decide⟩) (Finset.mem_univ _)
  rw [hInt] at hx hX
  have hl : ((lo ids).toNat : ℤ) = (lo ids).toInt := by
    have := (lo ids).isLt
    have h0 : 0 ≤ (lo ids).toInt := by omega
    rw [BitVec.toInt_eq_toNat_cond] at h0 ⊢
    split at h0 <;> split <;> omega
  have hh : ((hi ids).toNat : ℤ) = (hi ids).toInt := by
    have := (hi ids).isLt
    rw [BitVec.toInt_eq_toNat_cond] at hX ⊢
    split at hX <;> split <;> omega
  refine ⟨(lo ids).toNat, (hi ids).toNat, by rw [BitVec.ofNat_toNat, BitVec.setWidth_eq], by rw [BitVec.ofNat_toNat, BitVec.setWidth_eq], by omega, by omega, by omega, fun x => ?_⟩
  have h1 := m1 x (Finset.mem_univ _)
  have h2 := M1 x (Finset.mem_univ _)
  rw [hInt] at h1 h2
  omega

/-- The smallest and the largest id of a block whose ids are at most 512, as natural numbers. -/
theorem lo_hi (ids : Vec F S1x1x6400 .i32) (h : ∀ x, (ids x).toNat ≤ 512) :
    ∃ a b : ℕ, lo ids = BitVec.ofNat 32 a ∧ hi ids = BitVec.ofNat 32 b ∧ a ≤ b ∧ b ≤ 512
      ∧ ∀ x, a ≤ (ids x).toNat ∧ (ids x).toNat ≤ b := by
  obtain ⟨a, b, h1, h2, -, h3⟩ := lo_hi_between ids 0 512 le_rfl fun x => ⟨Nat.zero_le _, h x⟩
  exact ⟨a, b, h1, h2, h3⟩

end Range

variable {F : FTy → Type} [FloatOps F] [Named F]

/-- The 32 rows of the accumulator from row `n`. -/
def rows (A : Vec F S544x256 .f32) (n : ℕ) : Vec F S32x256 .f32 := fun x => A fun a =>
  ⟨min (![n, 0] a + (x a).val) (S544x256.size a - 1), by
    have : 0 < S544x256.size a := by fin_cases a <;> decide
    omega⟩

/-- The tile's rows with the rows of the block whose id is `w`, `w + 1`, … added to them. -/
def tileAdd (w : BitVec 32) (ids : Vec F S1x1x6400 .i32) (act : FVec F S6400x256 .f32) (old : Vec F S32x256 .f32) :
    FVec F S32x256 .f32 :=
  shapeCast S32x256 (addf old (matmul dot_S32x6400_S6400x256_S32x256_1_0_0_1_n_n none
    (sitofp .f32 (extui 32 (cmpi .eq (addi (iota .tc S32x6400 32 [0] iota_S32x6400_d0_w32) (broadcast S32x6400 w))
      (broadcastTo S32x6400 (shapeCast S1x6400 ids shapeCasts_S1x1x6400_S1x6400) broadcasts_S1x6400_S32x6400)) natLt_1_32))
    act (constant S32x256 .f32 0x00000000#32))) shapeCasts_S32x256_S32x256

/-- The accumulator with the tile from row `n` added to. -/
def tilePut (ids : Vec F S1x1x6400 .i32) (act : FVec F S6400x256 .f32) (n : ℕ) (A : Vec F S544x256 .f32) :
    Vec F S544x256 .f32 :=
  VecWindow.put A ![n, 0] S32x256.size (tileAdd (BitVec.ofNat 32 n) ids act (rows A n))

/-- The accumulator with `k` successive tiles from row `n` added to. -/
def tiles (ids : Vec F S1x1x6400 .i32) (act : FVec F S6400x256 .f32) (n : ℕ) (A : Vec F S544x256 .f32) :
    ℕ → Vec F S544x256 .f32
  | 0 => A
  | k + 1 => tilePut ids act (n + 32 * k) (tiles ids act n A k)

/-- The accumulator with every tile the block's ids can fall in added to. -/
def reduced (ids : Vec F S1x1x6400 .i32) (act : FVec F S6400x256 .f32) (A : Vec F S544x256 .f32) : Vec F S544x256 .f32 :=
  tiles ids act ((lo ids).toNat / 32 * 32) A (extra (lo ids).toNat (hi ids).toNat + 1)

/-- What is stored for the first tile of the previous block is the tile with the block added. -/
theorem pay21_eq (ids : Vec F S1x1x6400 .i32) (act : FVec F S6400x256 .f32) (v : BitVec 32) (old : Vec F S32x256 .f32) :
    k0_pay21 (k0_pay17 ids) act (fdiv v) 32#32 old = tileAdd (base v) ids act old := rfl

/-- What is stored for a following tile of the previous block is the tile with the block added. -/
theorem pay24_eq (ids : Vec F S1x1x6400 .i32) (act : FVec F S6400x256 .f32) (v w : BitVec 32)
    (k : Fin (k0_t1_loop v w).trips) (old : Vec F S32x256 .f32) :
    k0_pay24 act v w (fdiv v) 32#32 ids k old = tileAdd (tileBase v k) ids act old := rfl

/-- What the last point stores for the first tile of the current block is the tile with the block added. -/
theorem pay7_eq (ids : Vec F S1x1x6400 .i32) (act : FVec F S6400x256 .f32) (old : Vec F S32x256 .f32) :
    k0_pay7 act (k0_pay6 ids) old = tileAdd (base (lo ids)) ids act old := rfl

/-- What the last point stores for a following tile of the current block is the tile with the block added. -/
theorem pay9_eq (ids : Vec F S1x1x6400 .i32) (act : FVec F S6400x256 .f32) (v w : BitVec 32)
    (k : Fin (k0_t3_loop v w).trips) (old : Vec F S32x256 .f32) :
    k0_pay9 act v w (base v) ids k old = tileAdd (tileBase v k) ids act old := rfl

/-- A rectangle of 32 whole rows of the accumulator that is in bounds reads those rows. -/
theorem ld_rows (A : Vec F S544x256 .f32) (off : Fin 2 → ℕ) (inb : ∀ a, off a + S32x256.size a ≤ S544x256.size a)
    (n : ℕ) (h : off = ![n, 0]) : View.ld A (Rect.unit (s := S544x256) off S32x256.size inb) = rows A n := by
  subst h
  funext x
  refine congrArg A (funext fun a => Fin.ext ?_)
  show ![n, 0] a + 1 * (x a).val = min (![n, 0] a + (x a).val) (S544x256.size a - 1)
  have h1 := inb a
  have h2 := (x a).isLt
  have h3 : ![n, 0] a + (x a).val < S544x256.size a := lt_of_lt_of_le (Nat.add_lt_add_left h2 _) h1
  omega

/-- One load, addition and store of a tile is `tilePut`. -/
theorem tile_step (ids : Vec F S1x1x6400 .i32) (act : FVec F S6400x256 .f32) (A : Vec F S544x256 .f32)
    (off : Fin 2 → ℕ) (inb : ∀ a, off a + S32x256.size a ≤ S544x256.size a) (n : ℕ) (w : BitVec 32)
    (hw : w = BitVec.ofNat 32 n) (h : off = ![n, 0]) :
    VecWindow.put A off S32x256.size (tileAdd w ids act (View.ld A (Rect.unit (s := S544x256) off S32x256.size inb)))
      = tilePut ids act n A := by
  rw [ld_rows A off inb n h, hw, h]
  rfl

/-- A natural below 1024 survives as a word. -/
theorem toNat_ofNat_small (n : ℕ) (hn : n < 1024) : (BitVec.ofNat 32 n).toNat = n := by
  rw [BitVec.toNat_ofNat]; omega

/-- When the smallest and the largest id are known naturals, the tiles added are those between them. -/
theorem reduced_eq (ids : Vec F S1x1x6400 .i32) (act : FVec F S6400x256 .f32) (A : Vec F S544x256 .f32) (a b : ℕ)
    (ha : lo ids = BitVec.ofNat 32 a) (hb : hi ids = BitVec.ofNat 32 b) (hab : a ≤ b) (h512 : b ≤ 512) :
    reduced ids act A = tiles ids act (a / 32 * 32) A (extra a b + 1) := by
  unfold reduced
  rw [ha, hb, toNat_ofNat_small a (by omega), toNat_ofNat_small b (by omega)]

/-- The first tile's step on the previous block: one tile added. -/
theorem first_tile (ids : Vec F S1x1x6400 .i32) (act : FVec F S6400x256 .f32) (A : Vec F S544x256 .f32) (a : ℕ) (v : BitVec 32)
    (hv : v = BitVec.ofNat 32 a) (ha : a ≤ 512) (inb : ∀ d, k0_off1 v d + S32x256.size d ≤ S544x256.size d) :
    VecWindow.put A (k0_off1 v) S32x256.size (k0_pay21 (k0_pay17 ids) act (fdiv v) 32#32
      (View.ld A (Rect.unit (s := S544x256) (k0_off1 v) S32x256.size inb))) = tiles ids act (a / 32 * 32) A 1 := by
  have h := tile_step ids act A (k0_off1 v) inb (a / 32 * 32) (base v) (by rw [hv, base_ofNat a (by omega)]) (by
    rw [off1_eq, hv, base_ofNat a (by omega), toNat_ofNat_small _ (by omega)])
  rw [← pay21_eq] at h
  exact h.trans rfl

/-- The accumulator's rows of the segments that are read out. -/
def top (A : Vec F S544x256 .f32) : Vec F S512x256 .f32 :=
  View.ld A (Rect.unit (s := S544x256) ![0, 0] S512x256.size inb_S544x256_S512x256_0_0)

/-- The result the last point computes from the accumulator and the second and third layers' parameters. -/
def readOut (T : Vec F S512x256 .f32) (W2 : Vec F S256x64 .f32) (B2 : Vec F S1x64 .f32) (W3 : Vec F S1x64 .f32)
    (B3 : Vec F S1x1 .f32) : Vec F S512x1 .f32 :=
  k0_pay1 (k0_pay11 T W2 B2) (k0_pay12 T W2 B2) (k0_pay13 T W2 B2) (k0_pay14 T W2 B2) (k0_pay15 (F := F)) W3 B3

end Cert.Proof.KI
-- ==== Proof.KernelIdealBody.lean ====
/-
  The kernel body of the named program at one grid point: from the windows and the two scratch buffers held at their
  vectors, it leaves the accumulator reduced over the previous block (and, at the last point, over the current one), the
  scratch block recomputed, and at the last point the result.
-/
module

public import proofs.«01_k».proof.Proof.KernelIdealSpec
public import proofs.«01_k».proof.Proof.OwnRules

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

namespace Cert.Proof.KI

open Cert.KernelIdeal Cert.KernelIdeal.Gen Cert.Proof.Words Cert.Proof.OwnRules

variable {F : FTy → Type} [FloatOps F] [Named F]

local notation "𝕄" => MT nD τ sig Unit (Elt F) ℕ (UR sig nD τ) ℕ

section Body

variable {c : Dev nD} {E : Set ℕ} (i : grid0.Coords)
  {arg1 : Memref sig .tc .vmem S6400x128 .f32} {harg1 : arg1.IsWhole} {arg2 : Memref sig .tc .vmem S1x1x6400 .i32} {harg2 : arg2.IsWhole}
  {arg3 : Memref sig .tc .vmem S1x1x6400 .i32} {harg3 : arg3.IsWhole} {arg4 : Memref sig .tc .vmem S128x256 .f32} {harg4 : arg4.IsWhole}
  {arg5 : Memref sig .tc .vmem S1x256 .f32} {harg5 : arg5.IsWhole} {arg6 : Memref sig .tc .vmem S256x64 .f32} {harg6 : arg6.IsWhole}
  {arg7 : Memref sig .tc .vmem S1x64 .f32} {harg7 : arg7.IsWhole} {arg8 : Memref sig .tc .vmem S1x64 .f32} {harg8 : arg8.IsWhole}
  {arg9 : Memref sig .tc .vmem S1x1 .f32} {harg9 : arg9.IsWhole} {arg10 : Memref sig .tc .vmem S512x1 .f32} {harg10 : arg10.IsWhole}
  {arg11 : Memref sig .tc .vmem S544x256 .f32} {harg11 : arg11.IsWhole} {arg12 : Memref sig .tc .vmem S6400x256 .f32} {harg12 : arg12.IsWhole}

/-- Whether a point is the first. -/
abbrev isFirst : Prop := Scalar.cmpi .ne (Scalar.extui (Scalar.cmpi .eq (BitVec.ofNat 32 (i 0).val) 0#32) : BitVec 32) 0#32 = 1#1

/-- The accumulator as the first point leaves it before anything is added, and as any other point finds it. -/
def start (A : Vec F S544x256 .f32) : Vec F S544x256 .f32 := if isFirst i then k0_pay16 (F := F) else A

/-- The origin of a matrix is zero on each axis. -/
theorem zero2 : ∀ a : Fin 2, (![0, 0] : Fin 2 → ℕ) a = 0 := by decide
/-- The origin of a three-axis array is zero on each axis. -/
theorem zero3 : ∀ a : Fin 3, (![0, 0, 0] : Fin 3 → ℕ) a = 0 := by decide

/-- The head of the body: the accumulator is cleared at the first point, the previous block and its ids are read, and the
    two side conditions on the ids' range hold. -/
theorem part3_spec (P : Vec F S1x1x6400 .i32) (A : Vec F S544x256 .f32) (Y : Vec F S6400x256 .f32)
    (h1 : k0_chk1 (lo P)) (h2 : k0_chk2 (lo P) (hi P)) {Q : _ → sProp 𝕄} :
    iprop(owns (c : Thread nD τ) arg2 fullShare P ∗ owns (c : Thread nD τ) arg11 fullShare A
        ∗ owns (c : Thread nD τ) arg12 fullShare Y
        ∗ ((owns (c : Thread nD τ) arg2 fullShare P ∗ owns (c : Thread nD τ) arg11 fullShare (start i A)
            ∗ owns (c : Thread nD τ) arg12 fullShare Y)
          -∗ Q ⟨BitVec.ofNat 32 (i 0).val, k0_pay17 P, k0_pay18 Y, lo P, h1, hi P, h2, fdiv (lo P), 32#32⟩))
      ⊢ wp frame (wpE (defs₀ (F := F)) Variants.none (c : Thread nD τ) none) E
        (k0_part3 (F := F) i arg1 harg1 arg2 harg2 arg3 harg3 arg4 harg4 arg5 harg5 arg6 harg6 arg7 harg7 arg8 harg8 arg9 harg9 arg10 harg10 arg11 harg11 arg12 harg12) Q := by
  rw [k0_part3_eq_skeleton]
  unfold k0_part3_skel fdiv
  unfold lo hi at *
  dsimp only
  iintro ⟨HP, HA, HY, HQ⟩
  by_cases hf : isFirst i
  · rw [dif_pos hf, wp_bind]
    iapply (loadW Variants.none (c : Thread nD τ) none E zero2)
    isplitl [HA]; · iexact HA
    iintro HA
    rw [wp_bind]
    iapply (storeW Variants.none (c : Thread nD τ) none E zero2)
    isplitl [HA]; · iexact HA
    iintro HA
    rw [wp_bind]
    iapply (loadW Variants.none (c : Thread nD τ) none E zero2)
    isplitl [HY]; · iexact HY
    iintro HY
    rw [wp_bind]
    iapply (loadW Variants.none (c : Thread nD τ) none E zero3)
    isplitl [HP]; · iexact HP
    iintro HP
    rw [wp_bind]
    iapply (check Variants.none (c : Thread nD τ) none E h1)
    rw [wp_bind]
    iapply (check Variants.none (c : Thread nD τ) none E h2)
    rw [wp_pure]
    imodintro
    iapply HQ
    unfold start
    rw [if_pos hf]
    isplitl [HP]; · iexact HP
    isplitl [HA]; · iexact HA
    iexact HY
  · rw [dif_neg hf]
    rw [wp_bind]
    iapply (loadW Variants.none (c : Thread nD τ) none E zero2)
    isplitl [HY]; · iexact HY
    iintro HY
    rw [wp_bind]
    iapply (loadW Variants.none (c : Thread nD τ) none E zero3)
    isplitl [HP]; · iexact HP
    iintro HP
    rw [wp_bind]
    iapply (check Variants.none (c : Thread nD τ) none E h1)
    rw [wp_bind]
    iapply (check Variants.none (c : Thread nD τ) none E h2)
    rw [wp_pure]
    imodintro
    iapply HQ
    unfold start
    rw [if_neg hf]
    isplitl [HP]; · iexact HP
    isplitl [HA]; · iexact HA
    iexact HY

/-- The loop over the following tiles of the previous block. -/
theorem loop1_spec (P : Vec F S1x1x6400 .i32) (act : FVec F S6400x256 .f32) (A : Vec F S544x256 .f32) (a b : ℕ)
    (hab : a ≤ b) (hb : b ≤ 512) (v w : BitVec 32) (hv : v = BitVec.ofNat 32 a) (hw : w = BitVec.ofNat 32 b)
    (a0 : BitVec 32) (v5 : IVec S1x6400 32) (h1 : k0_chk1 v) (h2 : k0_chk2 v w) (hc : k0_cond2 v w = 1#1) (init : BitVec 32) {Q : _ → sProp 𝕄} :
    iprop(owns (c : Thread nD τ) arg11 fullShare (tiles P act (a / 32 * 32) A 1)
        ∗ (∀ acc, owns (c : Thread nD τ) arg11 fullShare (tiles P act (a / 32 * 32) A (extra a b + 1)) -∗ Q acc))
      ⊢ wp frame (wpE (defs₀ (F := F)) Variants.none (c : Thread nD τ) none) E
        (Scf.Loop.for (k0_t1_loop v w) (k0_t1_ok v w h2 hc) init (k0_t1_body (F := F) i arg1 harg1 arg2 harg2 arg3 harg3 arg4 harg4 arg5 harg5 arg6 harg6 arg7 harg7 arg8 harg8 arg9 harg9 arg10 harg10 arg11 harg11 arg12 harg12 a0 v5 act v h1 w h2 (fdiv v) 32#32 hc P)) Q := by
  subst hv hw
  have ht := trips1 hab hb
  have key := Scf.wp_for frame (wpE (defs₀ (F := F)) Variants.none (c : Thread nD τ) none) E _ _ _
    (k0_t1_ok _ _ h2 hc) init (k0_t1_body (F := F) i arg1 harg1 arg2 harg2 arg3 harg3 arg4 harg4 arg5 harg5 arg6 harg6 arg7 harg7 arg8 harg8 arg9 harg9 arg10 harg10 arg11 harg11 arg12 harg12 a0 v5 act (BitVec.ofNat 32 a) h1 (BitVec.ofNat 32 b) h2 (fdiv (BitVec.ofNat 32 a)) 32#32 hc P)
    (fun k _ => owns (c : Thread nD τ) arg11 fullShare (tiles P act (a / 32 * 32) A (k + 1))) ?_ (Q := Q)
  · rw [show Scf.trips _ _ _ = extra a b from ht] at key
    exact key
  · intro k acc
    have hk : k.val < extra a b := lt_of_lt_of_eq k.isLt ht
    unfold extra at hk
    unfold k0_t1_body
    dsimp only
    iintro HA
    rw [wp_bind]
    iapply (load Variants.none (c : Thread nD τ) none E)
    isplitl [HA]; · iexact HA
    iintro HA
    rw [wp_bind]
    iapply (load Variants.none (c : Thread nD τ) none E)
    isplitl [HA]; · iexact HA
    iintro HA
    rw [wp_bind]
    iapply (store Variants.none (c : Thread nD τ) none E)
    isplitl [HA]; · iexact HA
    iintro HA
    rw [wp_pure, pay24_eq, tile_step P act _ _ _ (a / 32 * 32 + 32 * (k.val + 1)) _
      (tileBase_ofNat a k.val (by omega) (by omega)) (by
        rw [off2_eq, tileBase_ofNat a k.val (by omega) (by omega), toNat_ofNat_small _ (by omega)])]
    imodintro
    iexact HA

/-- The remainder part of that loop makes no trip. -/
theorem loop2_spec (P : Vec F S1x1x6400 .i32) (act : FVec F S6400x256 .f32) (a b : ℕ)
    (hab : a ≤ b) (hb : b ≤ 512) (v w : BitVec 32) (hv : v = BitVec.ofNat 32 a) (hw : w = BitVec.ofNat 32 b)
    (a0 : BitVec 32) (v5 : IVec S1x6400 32) (h1 : k0_chk1 v) (h2 : k0_chk2 v w) (hc : k0_cond2 v w = 1#1) (init : BitVec 32) {Q : _ → sProp 𝕄} :
    iprop(∀ acc, Q acc)
      ⊢ wp frame (wpE (defs₀ (F := F)) Variants.none (c : Thread nD τ) none) E
        (Scf.Loop.for (k0_t2_loop v w) (k0_t2_ok v w h2 hc) init (k0_t2_body (F := F) i arg1 harg1 arg2 harg2 arg3 harg3 arg4 harg4 arg5 harg5 arg6 harg6 arg7 harg7 arg8 harg8 arg9 harg9 arg10 harg10 arg11 harg11 arg12 harg12 a0 v5 act v h1 w h2 (fdiv v) 32#32 hc P)) Q := by
  subst hv hw
  have ht := trips2 hab hb
  have key := Scf.wp_for frame (wpE (defs₀ (F := F)) Variants.none (c : Thread nD τ) none) E _ _ _
    (k0_t2_ok _ _ h2 hc) init (k0_t2_body (F := F) i arg1 harg1 arg2 harg2 arg3 harg3 arg4 harg4 arg5 harg5 arg6 harg6 arg7 harg7 arg8 harg8 arg9 harg9 arg10 harg10 arg11 harg11 arg12 harg12 a0 v5 act (BitVec.ofNat 32 a) h1 (BitVec.ofNat 32 b) h2 (fdiv (BitVec.ofNat 32 a)) 32#32 hc P)
    (fun k _ => iprop(emp)) (fun k _ => absurd (lt_of_lt_of_eq k.isLt ht) (by omega)) (Q := Q)
  refine BIBase.Entails.trans ?_ key
  iintro H
  isplitr
  · iempintro
  iintro %acc -
  iapply H

/-- The loop over the following tiles of the current block. -/
theorem loop3_spec (P : Vec F S1x1x6400 .i32) (act : FVec F S6400x256 .f32) (A : Vec F S544x256 .f32) (a b : ℕ)
    (hab : a ≤ b) (hb : b ≤ 512) (v w : BitVec 32) (hv : v = BitVec.ofNat 32 a) (hw : w = BitVec.ofNat 32 b)
    (v112 : IVec S32x6400 32) (hl : k0_cond3 i = 1#1) (h1 : k0_chk3 i v) (h2 : k0_chk4 i v w) (hc : k0_cond4 v w = 1#1) (init : BitVec 32) {Q : _ → sProp 𝕄} :
    iprop(owns (c : Thread nD τ) arg11 fullShare (tiles P act (a / 32 * 32) A 1)
        ∗ (∀ acc, owns (c : Thread nD τ) arg11 fullShare (tiles P act (a / 32 * 32) A (extra a b + 1)) -∗ Q acc))
      ⊢ wp frame (wpE (defs₀ (F := F)) Variants.none (c : Thread nD τ) none) E
        (Scf.Loop.for (k0_t3_loop v w) (k0_t3_ok i v w h2 hl hc) init (k0_t3_body (F := F) i arg1 harg1 arg2 harg2 arg3 harg3 arg4 harg4 arg5 harg5 arg6 harg6 arg7 harg7 arg8 harg8 arg9 harg9 arg10 harg10 arg11 harg11 arg12 harg12 hl act v h1 w h2 (base v) v112 hc P)) Q := by
  subst hv hw
  have ht := trips1 hab hb
  have key := Scf.wp_for frame (wpE (defs₀ (F := F)) Variants.none (c : Thread nD τ) none) E _ _ _
    (k0_t3_ok i _ _ h2 hl hc) init (k0_t3_body (F := F) i arg1 harg1 arg2 harg2 arg3 harg3 arg4 harg4 arg5 harg5 arg6 harg6 arg7 harg7 arg8 harg8 arg9 harg9 arg10 harg10 arg11 harg11 arg12 harg12 hl act (BitVec.ofNat 32 a) h1 (BitVec.ofNat 32 b) h2 (base (BitVec.ofNat 32 a)) v112 hc P)
    (fun k _ => owns (c : Thread nD τ) arg11 fullShare (tiles P act (a / 32 * 32) A (k + 1))) ?_ (Q := Q)
  · rw [show Scf.trips _ _ _ = extra a b from ht] at key
    exact key
  · intro k acc
    have hk : k.val < extra a b := lt_of_lt_of_eq k.isLt ht
    unfold extra at hk
    unfold k0_t3_body
    dsimp only
    iintro HA
    rw [wp_bind]
    iapply (load Variants.none (c : Thread nD τ) none E)
    isplitl [HA]; · iexact HA
    iintro HA
    rw [wp_bind]
    iapply (load Variants.none (c : Thread nD τ) none E)
    isplitl [HA]; · iexact HA
    iintro HA
    rw [wp_bind]
    iapply (store Variants.none (c : Thread nD τ) none E)
    isplitl [HA]; · iexact HA
    iintro HA
    rw [wp_pure, pay9_eq, tile_step P act _ _ _ (a / 32 * 32 + 32 * (k.val + 1)) _
      (tileBase_ofNat a k.val (by omega) (by omega)) (by
        rw [off5_eq, tileBase_ofNat a k.val (by omega) (by omega), toNat_ofNat_small _ (by omega)])]
    imodintro
    iexact HA

/-- The remainder part of that loop makes no trip. -/
theorem loop4_spec (P : Vec F S1x1x6400 .i32) (act : FVec F S6400x256 .f32) (a b : ℕ)
    (hab : a ≤ b) (hb : b ≤ 512) (v w : BitVec 32) (hv : v = BitVec.ofNat 32 a) (hw : w = BitVec.ofNat 32 b)
    (v112 : IVec S32x6400 32) (hl : k0_cond3 i = 1#1) (h1 : k0_chk3 i v) (h2 : k0_chk4 i v w) (hc : k0_cond4 v w = 1#1) (init : BitVec 32) {Q : _ → sProp 𝕄} :
    iprop(∀ acc, Q acc)
      ⊢ wp frame (wpE (defs₀ (F := F)) Variants.none (c : Thread nD τ) none) E
        (Scf.Loop.for (k0_t4_loop v w) (k0_t4_ok i v w h2 hl hc) init (k0_t4_body (F := F) i arg1 harg1 arg2 harg2 arg3 harg3 arg4 harg4 arg5 harg5 arg6 harg6 arg7 harg7 arg8 harg8 arg9 harg9 arg10 harg10 arg11 harg11 arg12 harg12 hl act v h1 w h2 (base v) v112 hc P)) Q := by
  subst hv hw
  have ht := trips2 hab hb
  have key := Scf.wp_for frame (wpE (defs₀ (F := F)) Variants.none (c : Thread nD τ) none) E _ _ _
    (k0_t4_ok i _ _ h2 hl hc) init (k0_t4_body (F := F) i arg1 harg1 arg2 harg2 arg3 harg3 arg4 harg4 arg5 harg5 arg6 harg6 arg7 harg7 arg8 harg8 arg9 harg9 arg10 harg10 arg11 harg11 arg12 harg12 hl act (BitVec.ofNat 32 a) h1 (BitVec.ofNat 32 b) h2 (base (BitVec.ofNat 32 a)) v112 hc P)
    (fun k _ => iprop(emp)) (fun k _ => absurd (lt_of_lt_of_eq k.isLt ht) (by omega)) (Q := Q)
  refine BIBase.Entails.trans ?_ key
  iintro H
  isplitr
  · iempintro
  iintro %acc -
  iapply H

/-- The head of the last point's step: the current block and its ids are read, and the two side conditions hold. -/
theorem part1_spec (C : Vec F S1x1x6400 .i32) (Y : Vec F S6400x256 .f32)
    (h1 : k0_chk3 i (lo2 C)) (h2 : k0_chk4 i (lo2 C) (hi2 C)) {Q : _ → sProp 𝕄} :
    iprop(owns (c : Thread nD τ) arg3 fullShare C ∗ owns (c : Thread nD τ) arg12 fullShare Y
        ∗ ((owns (c : Thread nD τ) arg3 fullShare C ∗ owns (c : Thread nD τ) arg12 fullShare Y)
          -∗ Q ⟨k0_pay3 Y, lo2 C, h1, hi2 C, h2, base (lo2 C), k0_pay6 C⟩))
      ⊢ wp frame (wpE (defs₀ (F := F)) Variants.none (c : Thread nD τ) none) E (k0_part1 (F := F) i arg1 harg1 arg2 harg2 arg3 harg3 arg4 harg4 arg5 harg5 arg6 harg6 arg7 harg7 arg8 harg8 arg9 harg9 arg10 harg10 arg11 harg11 arg12 harg12) Q := by
  rw [k0_part1_eq_skeleton]
  unfold k0_part1_skel base fdiv
  unfold lo2 hi2 at *
  dsimp only
  iintro ⟨HC, HY, HQ⟩
  rw [wp_bind]
  iapply (loadW Variants.none (c : Thread nD τ) none E zero2)
  isplitl [HY]; · iexact HY
  iintro HY
  rw [wp_bind]
  iapply (loadW Variants.none (c : Thread nD τ) none E zero3)
  isplitl [HC]; · iexact HC
  iintro HC
  rw [wp_bind]
  iapply (check Variants.none (c : Thread nD τ) none E h1)
  rw [wp_bind]
  iapply (check Variants.none (c : Thread nD τ) none E h2)
  rw [wp_pure]
  imodintro
  iapply HQ
  isplitl [HC]; · iexact HC
  iexact HY

/-- The middle of the last point's step: the current block is reduced into the accumulator, and the read-out begins. -/
theorem part2_spec (C : Vec F S1x1x6400 .i32) (act : FVec F S6400x256 .f32) (A : Vec F S544x256 .f32)
    (W2 : Vec F S256x64 .f32) (B2 : Vec F S1x64 .f32) (hC : ∀ x, (C x).toNat ≤ 512) (hl : k0_cond3 i = 1#1)
    (v w : BitVec 32) (hv : v = lo C) (hw : w = hi C) (h1 : k0_chk3 i v) (h2 : k0_chk4 i v w) {Q : _ → sProp 𝕄} :
    iprop(owns (c : Thread nD τ) arg3 fullShare C ∗ owns (c : Thread nD τ) arg6 fullShare W2
        ∗ owns (c : Thread nD τ) arg7 fullShare B2 ∗ owns (c : Thread nD τ) arg11 fullShare A
        ∗ ((owns (c : Thread nD τ) arg3 fullShare C ∗ owns (c : Thread nD τ) arg6 fullShare W2
            ∗ owns (c : Thread nD τ) arg7 fullShare B2 ∗ owns (c : Thread nD τ) arg11 fullShare (reduced C act A))
          -∗ Q ⟨k0_pay11 (top (reduced C act A)) W2 B2, k0_pay12 (top (reduced C act A)) W2 B2,
            k0_pay13 (top (reduced C act A)) W2 B2, k0_pay14 (top (reduced C act A)) W2 B2, k0_pay15 (F := F)⟩))
      ⊢ wp frame (wpE (defs₀ (F := F)) Variants.none (c : Thread nD τ) none) E
        (k0_part2 (F := F) i arg1 harg1 arg2 harg2 arg3 harg3 arg4 harg4 arg5 harg5 arg6 harg6 arg7 harg7 arg8 harg8 arg9 harg9 arg10 harg10 arg11 harg11 arg12 harg12 hl act v h1 w h2 (base v) (k0_pay6 C)) Q := by
  obtain ⟨a, b, ha, hb, hab, h512, -⟩ := lo_hi C hC
  have hred := reduced_eq C act A a b ha hb hab h512
  rw [k0_part2_eq_skeleton]
  unfold k0_part2_skel top
  dsimp only
  iintro ⟨HC, HW, HB, HA, HQ⟩
  rw [wp_bind]
  iapply (load Variants.none (c : Thread nD τ) none E)
  isplitl [HA]; · iexact HA
  iintro HA
  rw [wp_bind]
  iapply (load Variants.none (c : Thread nD τ) none E)
  isplitl [HA]; · iexact HA
  iintro HA
  rw [wp_bind]
  iapply (store Variants.none (c : Thread nD τ) none E)
  isplitl [HA]; · iexact HA
  iintro HA
  rw [pay7_eq, tile_step C act _ _ _ (a / 32 * 32) _ (by rw [ha, base_ofNat a (by omega)]) (by
    rw [off4_eq, hv, ha, base_ofNat a (by omega), toNat_ofNat_small _ (by omega)]),
    show tilePut C act (a / 32 * 32) A = tiles C act (a / 32 * 32) A 1 from rfl]
  rcases Classical.em (k0_cond4 v w = 1#1) with hs | hs
  · rw [dif_pos hs, wp_bind]
    iapply (loadW Variants.none (c : Thread nD τ) none E zero3)
    isplitl [HC]; · iexact HC
    iintro HC
    rw [wp_bind]
    iapply (loop3_spec i C act A a b hab h512 v w (hv.trans ha) (hw.trans hb) _ hl h1 h2 hs)
    isplitl [HA]; · iexact HA
    iintro %acc HA
    rw [wp_bind]
    iapply (loop4_spec i C act a b hab h512 v w (hv.trans ha) (hw.trans hb) _ hl h1 h2 hs)
    iintro %acc'
    rw [← hred]
    rw [wp_bind]
    iapply (load Variants.none (c : Thread nD τ) none E)
    isplitl [HA]; · iexact HA
    iintro HA
    rw [wp_bind]
    iapply (loadW Variants.none (c : Thread nD τ) none E zero2)
    isplitl [HW]; · iexact HW
    iintro HW
    rw [wp_bind]
    iapply (loadW Variants.none (c : Thread nD τ) none E zero2)
    isplitl [HB]; · iexact HB
    iintro HB
    rw [wp_pure]
    imodintro
    iapply HQ
    isplitl [HC]; · iexact HC
    isplitl [HW]; · iexact HW
    isplitl [HB]; · iexact HB
    iexact HA
  · have he : extra a b = 0 := by
      by_contra hne
      refine hs ?_
      rw [cond4_eq, hv, hw, ha, hb, spills_iff a b hab (by omega)]
      omega
    rw [he] at hred
    rw [dif_neg hs, ← hred]
    rw [wp_bind]
    iapply (load Variants.none (c : Thread nD τ) none E)
    isplitl [HA]; · iexact HA
    iintro HA
    rw [wp_bind]
    iapply (loadW Variants.none (c : Thread nD τ) none E zero2)
    isplitl [HW]; · iexact HW
    iintro HW
    rw [wp_bind]
    iapply (loadW Variants.none (c : Thread nD τ) none E zero2)
    isplitl [HB]; · iexact HB
    iintro HB
    rw [wp_pure]
    imodintro
    iapply HQ
    isplitl [HC]; · iexact HC
    isplitl [HW]; · iexact HW
    isplitl [HB]; · iexact HB
    iexact HA

/-- The middle of the body: the previous block is reduced into the accumulator, and the scratch block recomputed. -/
theorem part4_spec (H : Vec F S6400x128 .f32) (P : Vec F S1x1x6400 .i32) (W1 : Vec F S128x256 .f32) (B1 : Vec F S1x256 .f32)
    (act : FVec F S6400x256 .f32) (A : Vec F S544x256 .f32) (Y : Vec F S6400x256 .f32) (hP : ∀ x, (P x).toNat ≤ 512)
    (a0 : BitVec 32) (v w : BitVec 32) (hv : v = lo P) (hw : w = hi P) (h1 : k0_chk1 v) (h2 : k0_chk2 v w) {Q : _ → sProp 𝕄} :
    iprop(owns (c : Thread nD τ) arg1 fullShare H
        ∗ owns (c : Thread nD τ) arg2 fullShare P
        ∗ owns (c : Thread nD τ) arg4 fullShare W1
        ∗ owns (c : Thread nD τ) arg5 fullShare B1
        ∗ owns (c : Thread nD τ) arg11 fullShare A
        ∗ owns (c : Thread nD τ) arg12 fullShare Y
        ∗ ((owns (c : Thread nD τ) arg1 fullShare H
            ∗ owns (c : Thread nD τ) arg2 fullShare P
            ∗ owns (c : Thread nD τ) arg4 fullShare W1
            ∗ owns (c : Thread nD τ) arg5 fullShare B1
            ∗ owns (c : Thread nD τ) arg11 fullShare (reduced P act A)
            ∗ owns (c : Thread nD τ) arg12 fullShare (k0_pay22 H W1 B1))
          -∗ Q ⟨⟩))
      ⊢ wp frame (wpE (defs₀ (F := F)) Variants.none (c : Thread nD τ) none) E
        (k0_part4 (F := F) i arg1 harg1 arg2 harg2 arg3 harg3 arg4 harg4 arg5 harg5 arg6 harg6 arg7 harg7 arg8 harg8 arg9 harg9 arg10 harg10 arg11 harg11 arg12 harg12 a0 (k0_pay17 P) act v h1 w h2 (fdiv v) 32#32) Q := by
  obtain ⟨a, b, ha, hb, hab, h512, -⟩ := lo_hi P hP
  have hred := reduced_eq P act A a b ha hb hab h512
  have hX := first_tile P act A a v (hv.trans ha) (by omega) (k0_off1_inb v h1)
  rw [k0_part4_eq_skeleton]
  unfold k0_part4_skel
  dsimp only
  iintro ⟨HH, HP, HW1, HB1, HA, HY, HQ⟩
  rw [wp_bind]
  iapply (load Variants.none (c : Thread nD τ) none E)
  isplitl [HA]; · iexact HA
  iintro HA
  rw [wp_bind]
  iapply (load Variants.none (c : Thread nD τ) none E)
  isplitl [HA]; · iexact HA
  iintro HA
  rw [wp_bind]
  iapply (storeAs Variants.none (c : Thread nD τ) none E hX)
  isplitl [HA]; · iexact HA
  iintro HA
  rw [wp_bind]
  iapply (loadW Variants.none (c : Thread nD τ) none E zero2)
  isplitl [HH]; · iexact HH
  iintro HH
  rw [wp_bind]
  iapply (loadW Variants.none (c : Thread nD τ) none E zero2)
  isplitl [HW1]; · iexact HW1
  iintro HW1
  rw [wp_bind]
  iapply (loadW Variants.none (c : Thread nD τ) none E zero2)
  isplitl [HB1]; · iexact HB1
  iintro HB1
  rw [wp_bind]
  iapply (loadW Variants.none (c : Thread nD τ) none E zero2)
  isplitl [HY]; · iexact HY
  iintro HY
  rw [wp_bind]
  iapply (storeW Variants.none (c : Thread nD τ) none E zero2)
  isplitl [HY]; · iexact HY
  iintro HY
  rcases Classical.em (k0_cond2 v w = 1#1) with hs | hs
  · rw [dif_pos hs]
    rw [wp_bind]
    iapply (loadW Variants.none (c : Thread nD τ) none E zero3)
    isplitl [HP]; · iexact HP
    iintro HP
    rw [wp_bind]
    iapply (loop1_spec i P act A a b hab h512 v w (hv.trans ha) (hw.trans hb) a0 _ h1 h2 hs)
    isplitl [HA]; · iexact HA
    iintro %acc HA
    rw [wp_bind]
    iapply (loop2_spec i P act a b hab h512 v w (hv.trans ha) (hw.trans hb) a0 _ h1 h2 hs)
    iintro %acc'
    rw [← hred, wp_pure]
    imodintro
    iapply HQ
    isplitl [HH]; · iexact HH
    isplitl [HP]; · iexact HP
    isplitl [HW1]; · iexact HW1
    isplitl [HB1]; · iexact HB1
    isplitl [HA]; · iexact HA
    iexact HY
  · have he : extra a b = 0 := by
      by_contra hne
      refine hs ?_
      rw [cond2_eq, hv, hw, ha, hb, spills_iff a b hab (by omega)]
      omega
    rw [he] at hred
    rw [dif_neg hs, ← hred, wp_pure]
    imodintro
    iapply HQ
    isplitl [HH]; · iexact HH
    isplitl [HP]; · iexact HP
    isplitl [HW1]; · iexact HW1
    isplitl [HB1]; · iexact HB1
    isplitl [HA]; · iexact HA
    iexact HY

attribute [local irreducible] lo hi lo2 hi2 reduced tiles k0_pay18 k0_pay22 k0_pay3

/-- The accumulator a point leaves: reduced over the previous block, and at the last point over the current one too. -/
def accAfter (P C : Vec F S1x1x6400 .i32) (Y Y' : Vec F S6400x256 .f32) (A : Vec F S544x256 .f32) : Vec F S544x256 .f32 :=
  if k0_cond3 i = 1#1 then reduced C (k0_pay3 Y') (reduced P (k0_pay18 Y) (start i A)) else reduced P (k0_pay18 Y) (start i A)

/-- The result buffer a point leaves: at the last point the read-out, at any other point what it found. -/
def outAfter (P C : Vec F S1x1x6400 .i32) (Y Y' : Vec F S6400x256 .f32) (W2 : Vec F S256x64 .f32) (B2 : Vec F S1x64 .f32)
    (W3 : Vec F S1x64 .f32) (B3 : Vec F S1x1 .f32) (A : Vec F S544x256 .f32) (O : Vec F S512x1 .f32) : Vec F S512x1 .f32 :=
  if k0_cond3 i = 1#1 then readOut (top (accAfter i P C Y Y' A)) W2 B2 W3 B3 else O

set_option maxRecDepth 65536 in
/-- The body at a point, from every window and both scratch buffers held at their vectors. -/
theorem body_spec (H : Vec F S6400x128 .f32) (P C : Vec F S1x1x6400 .i32) (W1 : Vec F S128x256 .f32) (B1 : Vec F S1x256 .f32)
    (W2 : Vec F S256x64 .f32) (B2 : Vec F S1x64 .f32) (W3 : Vec F S1x64 .f32) (B3 : Vec F S1x1 .f32) (O : Vec F S512x1 .f32)
    (A : Vec F S544x256 .f32) (Y : Vec F S6400x256 .f32) (hP : ∀ x, (P x).toNat ≤ 512) (hC : ∀ x, (C x).toNat ≤ 512)
    {Q : _ → sProp 𝕄} :
    iprop(owns (c : Thread nD τ) arg1 fullShare H
        ∗ owns (c : Thread nD τ) arg2 fullShare P
        ∗ owns (c : Thread nD τ) arg3 fullShare C
        ∗ owns (c : Thread nD τ) arg4 fullShare W1
        ∗ owns (c : Thread nD τ) arg5 fullShare B1
        ∗ owns (c : Thread nD τ) arg6 fullShare W2
        ∗ owns (c : Thread nD τ) arg7 fullShare B2
        ∗ owns (c : Thread nD τ) arg8 fullShare W3
        ∗ owns (c : Thread nD τ) arg9 fullShare B3
        ∗ owns (c : Thread nD τ) arg10 fullShare O
        ∗ owns (c : Thread nD τ) arg11 fullShare A
        ∗ owns (c : Thread nD τ) arg12 fullShare Y
        ∗ ((owns (c : Thread nD τ) arg1 fullShare H
            ∗ owns (c : Thread nD τ) arg2 fullShare P
            ∗ owns (c : Thread nD τ) arg3 fullShare C
            ∗ owns (c : Thread nD τ) arg4 fullShare W1
            ∗ owns (c : Thread nD τ) arg5 fullShare B1
            ∗ owns (c : Thread nD τ) arg6 fullShare W2
            ∗ owns (c : Thread nD τ) arg7 fullShare B2
            ∗ owns (c : Thread nD τ) arg8 fullShare W3
            ∗ owns (c : Thread nD τ) arg9 fullShare B3
            ∗ owns (c : Thread nD τ) arg10 fullShare (outAfter i P C Y (k0_pay22 H W1 B1) W2 B2 W3 B3 A O)
            ∗ owns (c : Thread nD τ) arg11 fullShare (accAfter i P C Y (k0_pay22 H W1 B1) A)
            ∗ owns (c : Thread nD τ) arg12 fullShare (k0_pay22 H W1 B1))
          -∗ Q ⟨⟩))
      ⊢ wp frame (wpE (defs₀ (F := F)) Variants.none (c : Thread nD τ) none) E
        (cc0__body (F := F) i arg1 harg1 arg2 harg2 arg3 harg3 arg4 harg4 arg5 harg5 arg6 harg6 arg7 harg7 arg8 harg8 arg9 harg9 arg10 harg10 arg11 harg11 arg12 harg12) Q := by
  obtain ⟨a, b, ha, hb, hab, h512, -⟩ := lo_hi P hP
  obtain ⟨a', b', ha', hb', hab', h512', -⟩ := lo_hi C hC
  have h1 : k0_chk1 (lo P) := by rw [ha]; exact chk1 hab h512
  have h2 : k0_chk2 (lo P) (hi P) := by rw [ha, hb]; exact chk2 hab h512
  have h3 : k0_chk3 i (lo2 C) := by rw [lo2_eq, ha']; exact chk3 hab' h512' i
  have h4 : k0_chk4 i (lo2 C) (hi2 C) := by rw [lo2_eq, hi2_eq, ha', hb']; exact chk4 hab' h512' i
  rw [cc0__body_eq_skeleton]
  unfold cc0__body_skel
  dsimp only
  iintro ⟨HH, HP, HC, HW1, HB1, HW2, HB2, HW3, HB3, HO, HA, HY, HQ⟩
  rw [wp_bind]
  iapply (part3_spec i P A Y h1 h2)
  isplitl [HP]; · iexact HP
  isplitl [HA]; · iexact HA
  isplitl [HY]; · iexact HY
  iintro ⟨HP, HA, HY⟩
  dsimp only
  rw [wp_bind]
  iapply (part4_spec i H P W1 B1 (k0_pay18 Y) (start i A) Y hP _ (lo P) (hi P) rfl rfl h1 h2)
  isplitl [HH]; · iexact HH
  isplitl [HP]; · iexact HP
  isplitl [HW1]; · iexact HW1
  isplitl [HB1]; · iexact HB1
  isplitl [HA]; · iexact HA
  isplitl [HY]; · iexact HY
  iintro ⟨HH, HP, HW1, HB1, HA, HY⟩
  refine Or.elim (Classical.em (k0_cond3 i = 1#1)) (fun hl => ?_) (fun hl => ?_)
  · rw [dif_pos hl, wp_bind]
    iapply (part1_spec i C (k0_pay22 H W1 B1) h3 h4)
    isplitl [HC]; · iexact HC
    isplitl [HY]; · iexact HY
    iintro ⟨HC, HY⟩
    rw [wp_bind]
    iapply (part2_spec i C (k0_pay3 (k0_pay22 H W1 B1)) (reduced P (k0_pay18 Y) (start i A)) W2 B2 hC hl (lo2 C) (hi2 C) (lo2_eq C) (hi2_eq C) h3 h4)
    isplitl [HC]; · iexact HC
    isplitl [HW2]; · iexact HW2
    isplitl [HB2]; · iexact HB2
    isplitl [HA]; · iexact HA
    iintro ⟨HC, HW2, HB2, HA⟩
    rw [wp_bind]
    iapply (loadW Variants.none (c : Thread nD τ) none E zero2)
    isplitl [HW3]; · iexact HW3
    iintro HW3
    rw [wp_bind]
    iapply (loadW Variants.none (c : Thread nD τ) none E zero2)
    isplitl [HB3]; · iexact HB3
    iintro HB3
    rw [wp_bind]
    iapply (loadW Variants.none (c : Thread nD τ) none E zero2)
    isplitl [HO]; · iexact HO
    iintro HO
    rw [wp_bind]
    iapply (storeW Variants.none (c : Thread nD τ) none E zero2)
    isplitl [HO]; · iexact HO
    iintro HO
    rw [wp_pure]
    imodintro
    iapply HQ
    unfold outAfter accAfter readOut
    rw [if_pos hl, if_pos hl]
    isplitl [HH]; · iexact HH
    isplitl [HP]; · iexact HP
    isplitl [HC]; · iexact HC
    isplitl [HW1]; · iexact HW1
    isplitl [HB1]; · iexact HB1
    isplitl [HW2]; · iexact HW2
    isplitl [HB2]; · iexact HB2
    isplitl [HW3]; · iexact HW3
    isplitl [HB3]; · iexact HB3
    isplitl [HO]; · iexact HO
    isplitl [HA]; · iexact HA
    iexact HY
  · rw [dif_neg hl, wp_pure]
    imodintro
    iapply HQ
    unfold outAfter accAfter
    rw [if_neg hl, if_neg hl]
    isplitl [HH]; · iexact HH
    isplitl [HP]; · iexact HP
    isplitl [HC]; · iexact HC
    isplitl [HW1]; · iexact HW1
    isplitl [HB1]; · iexact HB1
    isplitl [HW2]; · iexact HW2
    isplitl [HB2]; · iexact HB2
    isplitl [HW3]; · iexact HW3
    isplitl [HB3]; · iexact HB3
    isplitl [HO]; · iexact HO
    isplitl [HA]; · iexact HA
    iexact HY

end Body

end Cert.Proof.KI
-- ==== Proof.KernelIdealTop.lean ====
/-
  Only the rows of the segments that are read out matter: how a reduction of a block acts on those rows, whatever the
  rows below them hold.
-/
module

public import proofs.«01_k».proof.Proof.KernelIdealBody

@[expose] public section

noncomputable section

open Idealize.ShloMosaic

namespace Cert.Proof.KI

open Cert.KernelIdeal Cert.KernelIdeal.Gen Cert.Proof.Words

variable {F : FTy → Type} [FloatOps F] [Named F]

/-- Two accumulators agree on the rows of the segments that are read out. -/
def SameTop (A B : Vec F S544x256 .f32) : Prop := ∀ r : S544x256.Idx, (r 0).val < 512 → A r = B r

/-- Agreement on the read-out rows is transitive. -/
theorem SameTop.trans {A B C : Vec F S544x256 .f32} (h : SameTop A B) (h' : SameTop B C) : SameTop A C :=
  fun r hr => (h r hr).trans (h' r hr)

/-- Agreeing on those rows is having the same read-out rows. -/
theorem sameTop_iff (A B : Vec F S544x256 .f32) : SameTop A B ↔ top A = top B := by
  constructor
  · intro h
    refine funext fun x => h _ ?_
    show 0 + 1 * (x 0).val < 512
    have := (x 0).isLt
    have hs : S512x256.size 0 = 512 := rfl
    omega
  · intro h r hr
    have h1 : (r 1).val < 256 := (r 1).isLt
    have hx := congrFun h (fun a => ⟨(r a).val, by fin_cases a; exacts [hr, h1]⟩)
    have e : ∀ X : Vec F S544x256 .f32, top X (fun a => ⟨(r a).val, by fin_cases a; exacts [hr, h1]⟩) = X r := fun X =>
      congrArg X (funext fun a => Fin.ext (by
        show ![0, 0] a + 1 * (r a).val = (r a).val
        have : (![0, 0] : Fin 2 → ℕ) a = 0 := zero2 a
        omega))
    rwa [e, e] at hx

/-- A tile inside the read-out rows depends on those rows only. -/
theorem sameTop_tilePut (ids : Vec F S1x1x6400 .i32) (act : FVec F S6400x256 .f32) (n : ℕ) (hn : n + 32 ≤ 512)
    {A B : Vec F S544x256 .f32} (h : SameTop A B) : SameTop (tilePut ids act n A) (tilePut ids act n B) := by
  have hr : rows A n = rows B n := funext fun x => h _ (by
    show min (n + (x 0).val) (544 - 1) < 512
    have : (x 0).val < 32 := (x 0).isLt
    omega)
  intro r hr'
  unfold tilePut VecWindow.put
  rw [hr]
  split
  · rfl
  · exact h r hr'

/-- A tile below the read-out rows leaves them. -/
theorem sameTop_tilePut_high (ids : Vec F S1x1x6400 .i32) (act : FVec F S6400x256 .f32) (n : ℕ) (hn : 512 ≤ n)
    (A : Vec F S544x256 .f32) : SameTop (tilePut ids act n A) A := by
  intro r hr
  unfold tilePut VecWindow.put
  rw [dif_neg fun h => by
    have h0 : n ≤ (r 0).val := (h 0).1
    omega]

/-- The same for several tiles. -/
theorem sameTop_tiles (ids : Vec F S1x1x6400 .i32) (act : FVec F S6400x256 .f32) (n : ℕ) {A B : Vec F S544x256 .f32}
    (h : SameTop A B) : ∀ k, n + 32 * k ≤ 512 → SameTop (tiles ids act n A k) (tiles ids act n B k)
  | 0, _ => h
  | k + 1, hk => sameTop_tilePut ids act _ (by omega) (sameTop_tiles ids act n h k (by omega))

/-- A block whose ids are all below 512 reduces two accumulators that agree on the read-out rows to two that agree. -/
theorem top_reduced (ids : Vec F S1x1x6400 .i32) (act : FVec F S6400x256 .f32) (hids : ∀ x, (ids x).toNat < 512)
    {A B : Vec F S544x256 .f32} (h : top A = top B) : top (reduced ids act A) = top (reduced ids act B) := by
  obtain ⟨a, b, ha, hb, -, hab, hb5, -⟩ := lo_hi_between ids 0 511 (by omega) fun x => ⟨Nat.zero_le _, by have := hids x; omega⟩
  rw [reduced_eq ids act A a b ha hb hab (by omega), reduced_eq ids act B a b ha hb hab (by omega)]
  refine (sameTop_iff _ _).mp (sameTop_tiles ids act _ ((sameTop_iff _ _).mpr h) _ ?_)
  unfold extra
  omega

/-- A block whose ids are all 512 leaves the read-out rows. -/
theorem top_reduced_out (ids : Vec F S1x1x6400 .i32) (act : FVec F S6400x256 .f32) (hids : ∀ x, (ids x).toNat = 512)
    (A : Vec F S544x256 .f32) : top (reduced ids act A) = top A := by
  obtain ⟨a, b, ha, hb, h1, h2, h3, -⟩ := lo_hi_between ids 512 512 (by omega) fun x => by have := hids x; omega
  rw [reduced_eq ids act A a b ha hb h2 h3]
  have e : extra a b = 0 := by unfold extra; omega
  rw [e]
  exact (sameTop_iff _ _).mp (sameTop_tilePut_high ids act _ (by omega) A)

/-- The activation of the previous block and of the current one are one function of the block. -/
theorem pay18_eq (Y : Vec F S6400x256 .f32) : k0_pay18 Y = k0_pay3 Y := by
  unfold k0_pay18 k0_pay3
  rfl

/-- The first point is the one of coordinate 0. -/
theorem isFirst_iff (i : grid0.Coords) : isFirst i ↔ (i 0).val = 0 := by
  have : ∀ n : Fin 50, Scalar.cmpi .ne (Scalar.extui (Scalar.cmpi .eq (BitVec.ofNat 32 n.val) 0#32) : BitVec 32) 0#32 = 1#1 ↔ n.val = 0 := by
    decide
  exact this (i 0)

/-- The point that writes the result is the one of coordinate 49. -/
theorem cond3_iff (i : grid0.Coords) : k0_cond3 i = 1#1 ↔ (i 0).val = 49 := by
  have : ∀ n : Fin 50, Scalar.cmpi .ne (Scalar.extui (Scalar.cmpi .eq (BitVec.ofNat 32 n.val) 49#32) : BitVec 32) 0#32 = 1#1 ↔ n.val = 49 := by
    decide
  exact this (i 0)

/-- The coordinate of a point is its number. -/
theorem coords_val (t : Fin cfg0.N) : (grid0.coords t 0).val = t.val := by
  have h : ∀ t : Fin grid0.N, (grid0.coords t 0).val = t.val := by decide
  exact h t

end Cert.Proof.KI

end
-- ==== Proof.KernelIdealLaunch.lean ====
/-
  The run of the named program: at every grid point the accumulator's read-out rows hold the blocks reduced so far and the
  scratch block holds the previous block's values, so the last point leaves the read-out of all the blocks.
-/
module

public import proofs.«01_k».proof.Proof.KernelIdealTop
public import proofs.«01_k».proof.Proof.Gen.KernelIdeal.Frame
public import proofs.«01_k».proof.Proof.Gen.KernelIdeal.Points
public import Idealize.ShloMosaic.Lib.Pipeline.FrameBody

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Proof.KI

open Cert.KernelIdeal Cert.KernelIdeal.Gen Cert.Proof.Words Cert.Proof.OwnRules

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The ids of a point's previous block. -/
def idsPrev (c : Dev nD) (t : Fin cfg0.N) : Vec F S1x1x6400 .i32 := iblk m c 1 t

/-- The ids of a point's block. -/
def idsCur (c : Dev nD) (t : Fin cfg0.N) : Vec F S1x1x6400 .i32 := iblk m c 2 t

/-- The first layer's values, before the activation, of a point's block. -/
def yblk (c : Dev nD) (t : Fin cfg0.N) : Vec F S6400x256 .f32 := k0_pay22 (iblk m c 0 t) (iblk m c 3 t) (iblk m c 4 t)

/-- The accumulator with the first `k` blocks reduced. -/
def accAt (c : Dev nD) : ℕ → Vec F S544x256 .f32
  | 0 => k0_pay16 (F := F)
  | k + 1 => if h : k < cfg0.N then reduced (idsCur m c ⟨k, h⟩) (k0_pay3 (yblk m c ⟨k, h⟩)) (accAt c k) else accAt c k

/-- The result, from the accumulator with all the blocks reduced. -/
def result (c : Dev nD) (t : Fin cfg0.N) : Vec F S512x1 .f32 :=
  readOut (top (accAt m c 50)) (iblk m c 5 t) (iblk m c 6 t) (iblk m c 7 t) (iblk m c 8 t)

/-- What the launch needs of the ids: every block's ids are below 512, each point's previous block is the block of the
    point before it, and the first point's previous block is all 512. -/
structure Ids (c : Dev nD) : Prop where
  cur : ∀ t x, (idsCur m c t x).toNat < 512
  first : ∀ h x, (idsPrev m c ⟨0, h⟩ x).toNat = 512
  prev : ∀ k (h : k + 1 < cfg0.N), idsPrev m c ⟨k + 1, h⟩ = idsCur m c ⟨k, by omega⟩

/-- Every point's previous ids are at most 512. -/
theorem Ids.prev_le {c : Dev nD} (h : Ids m c) : ∀ (t : Fin cfg0.N) x, (idsPrev m c t x).toNat ≤ 512
  | ⟨0, h0⟩, x => (h.first h0 x).le
  | ⟨k + 1, hk⟩, x => by rw [h.prev k hk]; exact (h.cur _ x).le

/-- What the two scratch buffers hold before point `k`: nothing in particular before the first and after the last. -/
def Inv (c : Dev nD) (k : ℕ) (A : Vec F S544x256 .f32) (Y : Vec F S6400x256 .f32) : Prop :=
  k = 0 ∨ k = 50 ∨ ∃ (j : ℕ) (h : j < cfg0.N), k = j + 1 ∧ top A = top (accAt m c j) ∧ Y = yblk m c ⟨j, h⟩

attribute [local irreducible] reduced top k0_pay18 k0_pay3 k0_pay16 k0_pay22 readOut

/-- A point's reduction over the previous block leaves the read-out rows with every earlier block reduced. -/
theorem top_step {c : Dev nD} (h : Ids m c) (t : Fin cfg0.N) (A : Vec F S544x256 .f32) (Y : Vec F S6400x256 .f32)
    (hI : Inv m c t.val A Y) :
    top (reduced (idsPrev m c t) (k0_pay18 Y) (start (grid0.coords t) A)) = top (accAt m c t.val) := by
  obtain ⟨n, hn⟩ := t
  have hN : n < 50 := hn
  have hf : isFirst (grid0.coords (⟨n, hn⟩ : Fin cfg0.N)) ↔ n = 0 := by rw [isFirst_iff, coords_val]
  unfold start
  rcases n with _ | j
  · rw [if_pos (hf.mpr rfl), top_reduced_out _ _ (h.first hn)]
    rfl
  · rw [if_neg (fun h => by have := hf.mp h; omega)]
    rcases hI with hI | hI | ⟨j', hj', e, hA, hY⟩
    · exact absurd hI (by simp)
    · simp only at hI; omega
    · simp only at e
      obtain rfl : j = j' := by omega
      rw [h.prev j hn, pay18_eq, top_reduced _ _ (h.cur _) hA, hY]
      show _ = top (accAt m c (j + 1))
      rw [accAt, dif_pos hj']

/-- A point leaves the scratch buffers as the next one needs them. -/
theorem inv_succ {c : Dev nD} (h : Ids m c) (t : Fin cfg0.N) (A : Vec F S544x256 .f32) (Y : Vec F S6400x256 .f32)
    (hI : Inv m c t.val A Y) :
    Inv m c (t.val + 1) (accAfter (grid0.coords t) (idsPrev m c t) (idsCur m c t) Y (yblk m c t) A) (yblk m c t) := by
  have hN : t.val < 50 := t.isLt
  by_cases hl : t.val = 49
  · exact Or.inr (Or.inl (by omega))
  · refine Or.inr (Or.inr ⟨t.val, t.isLt, rfl, ?_, rfl⟩)
    unfold accAfter
    rw [if_neg (fun h => hl (by rw [cond3_iff, coords_val] at h; exact h))]
    exact top_step m h t A Y hI

/-- What the last point leaves in the result's buffer. -/
theorem out_last {c : Dev nD} (h : Ids m c) (t : Fin cfg0.N) (A : Vec F S544x256 .f32) (Y : Vec F S6400x256 .f32)
    (hI : Inv m c t.val A Y) (hl : t.val = 49) (O : Vec F S512x1 .f32) :
    outAfter (grid0.coords t) (idsPrev m c t) (idsCur m c t) Y (yblk m c t) (iblk m c 5 t) (iblk m c 6 t) (iblk m c 7 t)
      (iblk m c 8 t) A O = result m c t := by
  have hc : k0_cond3 (grid0.coords t) = 1#1 := by rw [cond3_iff, coords_val]; exact hl
  unfold outAfter accAfter result
  rw [if_pos hc, if_pos hc, top_reduced _ _ (h.cur t) (top_step m h t A Y hI)]
  obtain ⟨n, hn⟩ := t
  obtain rfl : n = 49 := hl
  rw [show accAt m c 50 = if h : 49 < cfg0.N then reduced (idsCur m c ⟨49, h⟩) (k0_pay3 (yblk m c ⟨49, h⟩)) (accAt m c 49) else accAt m c 49 from rfl,
    dif_pos hn]

/-- What any other point leaves there: what it found. -/
theorem out_other {c : Dev nD} (t : Fin cfg0.N) (A : Vec F S544x256 .f32) (Y : Vec F S6400x256 .f32) (hl : t.val ≠ 49)
    (O : Vec F S512x1 .f32) :
    outAfter (grid0.coords t) (idsPrev m c t) (idsCur m c t) Y (yblk m c t) (iblk m c 5 t) (iblk m c 6 t) (iblk m c 7 t)
      (iblk m c 8 t) A O = O := by
  unfold outAfter
  rw [if_neg (fun h => hl (by rw [cond3_iff, coords_val] at h; exact h))]

/-- The scratch buffers between two points, with the core's random bits. -/
def between (c : Dev nD) (k : ℕ) : sProp 𝕄 :=
  iprop((∃ A Y, owns (c : Thread nD τ) (Memref.whole cc0_scratch0) fullShare A
      ∗ owns (c : Thread nD τ) (Memref.whole cc0_scratch1) fullShare Y ∗ ⌜Inv m c k A Y⌝)
    ∗ ∃ r, prngReg c r)

/-- The proof data of the one pipeline on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => result m c t
  Φ t := between m c t.val
  q _ := fullShare
  owed _ := 0

/-- The array behind a window is the operand as the host leaves it. -/
theorem A_eq (c : Dev nD) (w : Fin cfg0.W) : (dats m 0 c).A w = V m c (Pipeline.arrRef spec0 w) := by
  dsimp only [dats]

/-- Input window 0 is left holding its block. -/
theorem after0 (c : Dev nD) (t : Fin cfg0.N) : (dats m 0 c).after 0 t = iblk m c 0 t := by dsimp only [dats]
/-- Input window 1 is left holding its block. -/
theorem after1 (c : Dev nD) (t : Fin cfg0.N) : (dats m 0 c).after 1 t = iblk m c 1 t := by dsimp only [dats]
/-- Input window 2 is left holding its block. -/
theorem after2 (c : Dev nD) (t : Fin cfg0.N) : (dats m 0 c).after 2 t = iblk m c 2 t := by dsimp only [dats]
/-- Input window 3 is left holding its block. -/
theorem after3 (c : Dev nD) (t : Fin cfg0.N) : (dats m 0 c).after 3 t = iblk m c 3 t := by dsimp only [dats]
/-- Input window 4 is left holding its block. -/
theorem after4 (c : Dev nD) (t : Fin cfg0.N) : (dats m 0 c).after 4 t = iblk m c 4 t := by dsimp only [dats]
/-- Input window 5 is left holding its block. -/
theorem after5 (c : Dev nD) (t : Fin cfg0.N) : (dats m 0 c).after 5 t = iblk m c 5 t := by dsimp only [dats]
/-- Input window 6 is left holding its block. -/
theorem after6 (c : Dev nD) (t : Fin cfg0.N) : (dats m 0 c).after 6 t = iblk m c 6 t := by dsimp only [dats]
/-- Input window 7 is left holding its block. -/
theorem after7 (c : Dev nD) (t : Fin cfg0.N) : (dats m 0 c).after 7 t = iblk m c 7 t := by dsimp only [dats]
/-- Input window 8 is left holding its block. -/
theorem after8 (c : Dev nD) (t : Fin cfg0.N) : (dats m 0 c).after 8 t = iblk m c 8 t := by dsimp only [dats]
/-- The result's window is left with the result. -/
theorem after9 (c : Dev nD) (t : Fin cfg0.N) : (dats m 0 c).after 9 t = result m c t := by dsimp only [dats]

/-- What holds before a point is what holds of the scratch buffers at its number. -/
theorem Phi_castSucc (c : Dev nD) (t : Fin cfg0.N) : (dats m 0 c).Φ t.castSucc = between m c t.val := rfl
/-- What holds after a point is what holds of the scratch buffers at the next number. -/
theorem Phi_succ (c : Dev nD) (t : Fin cfg0.N) : (dats m 0 c).Φ t.succ = between m c (t.val + 1) := rfl

/-- What a point leaves of the result's buffer: at the last point the result, at any other what it found. -/
def resultLeft (c : Dev nD) (t : Fin cfg0.N) : sProp 𝕄 :=
  match cfg0.idle 9 (cfg0.grid.coords t) with
  | true =>
    match (cfg0.win 9).flush t with
    | false => iprop(∃ d, owns (c : Thread nD τ) (st0_9 t) fullShare ((dats m 0 c).before 9 t d))
    | true => owns (c : Thread nD τ) (st0_9 t) fullShare ((dats m 0 c).after 9 t)
  | false => owns (c : Thread nD τ) (st0_9 t) fullShare ((dats m 0 c).after 9 t)

/-- The result's window is untouched at exactly the points that do not write it. -/
theorem idle9 (t : Fin cfg0.N) : cfg0.idle 9 (cfg0.grid.coords t) = !decide (k0_cond3 (grid0.coords t) = 1#1) := by
  show (!(k0_cond3 (grid0.coords t) == 1#1)) = _
  rfl

/-- The last point leaves the result in the result's buffer. -/
theorem resultLeft_last (c : Dev nD) (t : Fin cfg0.N) (hl : t.val = 49) :
    resultLeft m c t = owns (c : Thread nD τ) (st0_9 t) fullShare (result m c t) := by
  have hi : cfg0.idle 9 (cfg0.grid.coords t) = false := by
    rw [idle9, decide_eq_true (by rw [cond3_iff, coords_val]; exact hl)]; rfl
  unfold resultLeft
  rw [hi, after9]

/-- Any other point leaves the result's buffer as it found it. -/
theorem resultLeft_other (c : Dev nD) (t : Fin cfg0.N) (hl : t.val ≠ 49) :
    resultLeft m c t = iprop(∃ d, owns (c : Thread nD τ) (st0_9 t) fullShare ((dats m 0 c).before 9 t d)) := by
  have hi : cfg0.idle 9 (cfg0.grid.coords t) = true := by
    rw [idle9, decide_eq_false (fun h => hl (by rw [cond3_iff, coords_val] at h; exact h))]; rfl
  have hf : (cfg0.win 9).flush t = false := by
    rw [← Bool.not_eq_true, flush0_9]
    have : t.val < 50 := t.isLt
    omega
  unfold resultLeft
  rw [hi, hf]

/-- What a point starts from: the scratch buffers, and each window at its block. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What a point ends with: the scratch buffers of the next point, each input window unchanged, and the result window. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ resultLeft m c t)

/-- Input window 0 starts holding its block. -/
theorem before0 (c : Dev nD) (t d) : (dats m 0 c).before 0 t d = iblk m c 0 t := before0_0_of m (dats m 0 c) (A_eq m c 0) (after0 m c) t d
/-- Input window 1 starts holding its block. -/
theorem before1 (c : Dev nD) (t d) : (dats m 0 c).before 1 t d = iblk m c 1 t := before0_1_of m (dats m 0 c) (A_eq m c 1) (after1 m c) t d
/-- Input window 2 starts holding its block. -/
theorem before2 (c : Dev nD) (t d) : (dats m 0 c).before 2 t d = iblk m c 2 t := before0_2_of m (dats m 0 c) (A_eq m c 2) (after2 m c) t d
/-- Input window 3 starts holding its block. -/
theorem before3 (c : Dev nD) (t d) : (dats m 0 c).before 3 t d = iblk m c 3 t := before0_3_of m (dats m 0 c) (A_eq m c 3) (after3 m c) t d
/-- Input window 4 starts holding its block. -/
theorem before4 (c : Dev nD) (t d) : (dats m 0 c).before 4 t d = iblk m c 4 t := before0_4_of m (dats m 0 c) (A_eq m c 4) (after4 m c) t d
/-- Input window 5 starts holding its block. -/
theorem before5 (c : Dev nD) (t d) : (dats m 0 c).before 5 t d = iblk m c 5 t := before0_5_of m (dats m 0 c) (A_eq m c 5) (after5 m c) t d
/-- Input window 6 starts holding its block. -/
theorem before6 (c : Dev nD) (t d) : (dats m 0 c).before 6 t d = iblk m c 6 t := before0_6_of m (dats m 0 c) (A_eq m c 6) (after6 m c) t d
/-- Input window 7 starts holding its block. -/
theorem before7 (c : Dev nD) (t d) : (dats m 0 c).before 7 t d = iblk m c 7 t := before0_7_of m (dats m 0 c) (A_eq m c 7) (after7 m c) t d
/-- Input window 8 starts holding its block. -/
theorem before8 (c : Dev nD) (t d) : (dats m 0 c).before 8 t d = iblk m c 8 t := before0_8_of m (dats m 0 c) (A_eq m c 8) (after8 m c) t d

/-- From what a point starts from, its body runs without fault and ends with what the point is to leave. -/
theorem sound_body (c : Dev nD) (hI : Ids m c) (t : Fin cfg0.N) :
    bodyPre m c t ⊢ wp frame (wpE (defs₀ (F := F)) Variants.none c none) Set.univ (bodyAt0 t) (fun _ => bodyPost m c t) := by
  unfold bodyPre bodyPost bodyAt0
  rw [Phi_castSucc, Phi_succ, after0, after1, after2, after3, after4, after5, after6, after7, after8]
  simp only [before0, before1, before2, before3, before4, before5, before6, before7, before8]
  unfold Dat.owesAt Pipeline.owesWithin between
  rw [show (dats m 0 c).owed t.castSucc = 0 from rfl, show (dats m 0 c).owed t.succ = 0 from rfl]
  iintro ⟨⟨⟨%A, %Y, HA, HY, %hInv⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_spec (grid0.coords t) (iblk m c 0 t) (idsPrev m c t) (idsCur m c t) (iblk m c 3 t) (iblk m c 4 t) (iblk m c 5 t)
    (iblk m c 6 t) (iblk m c 7 t) (iblk m c 8 t) ((dats m 0 c).before 9 t d9) A Y (hI.prev_le m t) (fun x => (hI.cur t x).le))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HY]; · iexact HY
  iintro ⟨H0, H1, H2, H3, H4, H5, H6, H7, H8, H9, HA, HY⟩
  isplitl [HA HY Hg]
  · isplitl [HA HY]
    · iexists _, _
      isplitl [HA]; · iexact HA
      isplitl [HY]; · iexact HY
      ipureintro
      exact inv_succ m hI t A Y hInv
    · iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  refine Or.elim (Classical.em (t.val = 49)) (fun hl => ?_) (fun hl => ?_)
  · rw [resultLeft_last m c t hl, ← out_last m hI t A Y hInv hl ((dats m 0 c).before 9 t d9)]
    iexact H9
  · rw [resultLeft_other m c t hl]
    iexists d9
    have e := out_other m (c := c) t A Y hl ((dats m 0 c).before 9 t d9)
    unfold yblk at e
    rw [e]
    iexact H9

/-- The body called at a point is the body at that point's windows. -/
theorem defs₀_row (t : Fin cfg0.N) :
    defs₀ (F := F) .tc cfg0.body (cfg0.bodyArgs t (cfg0.slots t)) = bodyAt0 t := by
  unfold defs₀; rw [Defs.onTc_tc]

/-- Every point of the grid runs as the launch requires. -/
theorem body_obligation (c : Dev nD) (hI : Ids m c) : BodyObligation (dats (F := F) m 0 c) (defs₀ (F := F)) Variants.none () Set.univ := fun t => by
  rw [bigSep_W0, bigSep_W0, defs₀_row]
  exact triple_restated (sound_body m c hI t) rfl .rfl fun _ => .rfl

/-! ## The run -/

set_option backward.isDefEq.respectTransparency.types false in
/-- The run of the program, at any ids the launch allows: it ends, with every window's array as the blocks leave it. -/
theorem run_main (hI : ∀ c, Ids m c) : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c (hI c)).loose) (hshare := fun c => (dats m 0 c).share_full fun _ => rfl)
    (howed := fun _ _ => rfl) (V := V m) (hmain := hmain m Variants.none) (hA := A_eq m)
    (hin := fun c => by
      show _ ⊢ between m c 0
      unfold Pipeline.ΦA between
      rw [scopedRest0_eq]
      iintro ⟨⟨⟨%A, HA⟩, ⟨%Y, HY⟩⟩, Hg⟩
      isplitl [HA HY]
      · iexists A, Y
        isplitl [HA]
        · rw [owns_whole]; iexact HA
        isplitl [HY]
        · rw [owns_whole]; iexact HY
        ipureintro
        exact Or.inl rfl
      · iexact Hg)
    (hout := fun c => by
      show between m c 50 ⊢ _
      unfold Pipeline.ΦA between
      rw [scopedRest0_eq]
      iintro ⟨⟨%A, %Y, HA, HY, -⟩, Hg⟩
      isplitl [HA HY]
      · isplitl [HA]
        · iexists A
          rw [← owns_whole]; iexact HA
        · iexists Y
          rw [← owns_whole]; iexact HY
      · iexact Hg)
    (hQ' := fun _ h => h)

end Cert.Proof.KI

end
-- ==== Proof.KernelIdealIds.lean ====
/-
  The arrays the launch of the named program finds, from the arguments, and the ids of its blocks: the block of a point, the
  block of the point before it, and 512 before the first point.
-/
module

public import proofs.«01_k».proof.Proof.KernelIdealLaunch
public import Idealize.ShloMosaic.Lib.Pipeline.Value

@[expose] public section

noncomputable section

open Idealize.ShloMosaic Idealize.ShloMosaic.TcCoe Idealize.SL.Sem

namespace Cert.Proof.KI

open Cert.KernelIdeal Cert.KernelIdeal.Gen

variable {F : FTy → Type} [FloatOps F] [Named F]
variable (m : (ℓ : Loc nD τ sig) → Buf (Elt F) ℓ) (c : Dev nD)

/-- The argument arrays, at their shapes. -/
def argH : Vec F S320000x128 .f32 := m ((c : Thread nD τ).loc main_arg0)
/-- The segment ids argument. -/
def argIds : Vec F S320000 .i32 := m ((c : Thread nD τ).loc main_arg1)
/-- The first layer's weights. -/
def argW1 : Vec F S128x256 .f32 := m ((c : Thread nD τ).loc main_arg2)
/-- The first layer's bias. -/
def argB1 : Vec F S256 .f32 := m ((c : Thread nD τ).loc main_arg3)
/-- The second layer's weights. -/
def argW2 : Vec F S256x64 .f32 := m ((c : Thread nD τ).loc main_arg4)
/-- The second layer's bias. -/
def argB2 : Vec F S64 .f32 := m ((c : Thread nD τ).loc main_arg5)
/-- The last layer's weights. -/
def argW3 : Vec F S64x1 .f32 := m ((c : Thread nD τ).loc main_arg6)
/-- The last layer's bias. -/
def argB3 : Vec F S1 .f32 := m ((c : Thread nD τ).loc main_arg7)

/-- The current-ids operand is the ids in 50 rows of 6400. -/
theorem V_v0 : V m c main_v0 = shapeCast S50x1x6400 (argIds m c) shapeCasts_S320000_S50x1x6400 := by
  show StableHlo.after hostOps0 _ (Proc.devRef .tc main_v0) = _
  after_results
  rfl

/-- The previous-ids operand is a row of 512s followed by the first 49 rows of the ids. -/
theorem V_v3 : V m c main_v3 = concatenate S50x1x6400 0
    [⟨S1x1x6400, broadcastInDim S1x1x6400 ![] bcast_S_S1x1x6400 (constantI S_ 32 512#32)⟩,
      ⟨S49x1x6400, extractStridedSlice S49x1x6400 ![0, 0, 0] (shapeCast S50x1x6400 (argIds m c) shapeCasts_S320000_S50x1x6400)
        slices_S50x1x6400_S49x1x6400_0_0_0⟩] concatenates_S1x1x6400_S49x1x6400_S50x1x6400_d0 := by
  show StableHlo.after hostOps0 _ (Proc.devRef .tc main_v3) = _
  after_results
  rfl

/-- The first bias operand is the first layer's bias as one row. -/
theorem V_v4 : V m c main_v4 = shapeCast S1x256 (argB1 m c) shapeCasts_S256_S1x256 := by
  show StableHlo.after hostOps0 _ (Proc.devRef .tc main_v4) = _
  after_results
  rfl

/-- The second bias operand is the second layer's bias as one row. -/
theorem V_v5 : V m c main_v5 = shapeCast S1x64 (argB2 m c) shapeCasts_S64_S1x64 := by
  show StableHlo.after hostOps0 _ (Proc.devRef .tc main_v5) = _
  after_results
  rfl

/-- The last weights operand is the last layer's weights as one row. -/
theorem V_v6 : V m c main_v6 = shapeCast S1x64 (argW3 m c) shapeCasts_S64x1_S1x64 := by
  show StableHlo.after hostOps0 _ (Proc.devRef .tc main_v6) = _
  after_results
  rfl

/-- The last bias operand is the last layer's bias as a 1 by 1 array. -/
theorem V_v7 : V m c main_v7 = shapeCast S1x1 (argB3 m c) shapeCasts_S1_S1x1 := by
  show StableHlo.after hostOps0 _ (Proc.devRef .tc main_v7) = _
  after_results
  rfl

/-- The index of an array of ids at a natural position. -/
def rowIx (n : ℕ) (h : n < 320000) : S320000.Idx := fun a => ⟨n, by fin_cases a; exact h⟩

/-- A row of a block is a row of the input. -/
theorem row_lt (t : Fin cfg0.N) (k : ℕ) (hk : k < 6400) : t.val * 6400 + k < 320000 := by
  have h : t.val < 50 := t.isLt
  omega

/-- The position of a row in 50 blocks of one row of 6400, with the middle axis of size one kept. -/
theorem three_sum (n a b d : ℕ) (hb : b < 1) (h : n = a * 6400 + d) : n = (a * 1 + b) * 6400 + d := by
  obtain rfl : b = 0 := by omega
  rw [Nat.mul_one, Nat.add_zero]
  exact h

/-- The ids as 50 rows of 6400, one id at a time. -/
theorem rows50_apply (ids : Vec F S320000 .i32) (j : S50x1x6400.Idx) (n : ℕ) (hn : n < 320000)
    (h : n = (j 0).val * 6400 + (j 2).val) :
    shapeCast S50x1x6400 ids shapeCasts_S320000_S50x1x6400 j = ids (rowIx n hn) := by
  have h1 : (j 1).val < 1 := (j 1).isLt
  have e : n = ((j 0).val * 1 + (j 1).val) * 6400 + (j 2).val := three_sum _ _ _ _ h1 h
  have e1 := Shape.rowMajor_val_one (rowIx n hn)
  have e3 := Shape.rowMajor_val_three j
  have d1 : (![50, 1, 6400] : Fin 3 → ℕ) 1 = 1 := rfl
  have d2 : (![50, 1, 6400] : Fin 3 → ℕ) 2 = 6400 := rfl
  have e0 : (rowIx n hn 0).val = n := rfl
  rw [d1, d2] at e3
  rw [e0] at e1
  exact shapeCast_apply ids _ j (rowIx n hn) (e1.trans (e.trans e3.symm))

/-- The first index of a window that moves with the grid, at a point. -/
theorem index_val (t : Fin cfg0.N) : (BitVec.ofNat 32 (grid0.coords t 0).val).toNat = t.val := by
  have h : t.val < 50 := t.isLt
  rw [coords_val, BitVec.toNat_ofNat]
  omega

/-- The block of ids of a point, one id at a time. -/
theorem idsCur_apply (t : Fin cfg0.N) (x : S1x1x6400.Idx) :
    idsCur m c t x = argIds m c (rowIx (t.val * 6400 + (x 2).val) (row_lt t _ (x 2).isLt)) := by
  have h0 : (x 0).val < 1 := (x 0).isLt
  unfold idsCur iblk
  rw [View.read_apply]
  refine (congrFun (V_v0 m c) _).trans (rows50_apply _ _ _ _ ?_)
  show t.val * 6400 + (x 2).val = ((BitVec.ofNat 32 (grid0.coords t 0).val).toNat * 1 + 1 * (x 0).val) * 6400 + (0 * 6400 + 1 * (x 2).val)
  rw [index_val]
  omega

/-- The block of ids of the point before, one id at a time. -/
theorem idsPrev_succ (k : ℕ) (h : k + 1 < cfg0.N) : idsPrev m c ⟨k + 1, h⟩ = idsCur m c ⟨k, by omega⟩ := by
  funext x
  rw [idsCur_apply]
  have h0 : (x 0).val < 1 := (x 0).isLt
  have h1 : (x 1).val < 1 := (x 1).isLt
  have hk : k + 1 < 50 := h
  unfold idsPrev iblk
  rw [View.read_apply]
  refine (congrFun (V_v3 m c) _).trans ((concatenate_pair_apply_right (s₁ := S1x1x6400) (s₂ := S49x1x6400) (t := S50x1x6400) 0 _ _ _ _ rfl rfl
    (fun a => ⟨![k, 0, (x 2).val] a, by fin_cases a; exacts [by show k < 49; omega, by show 0 < 1; omega, (x 2).isLt]⟩) (fun b hb => ?_) ?_).trans ?_)
  · fin_cases b
    · exact absurd rfl hb
    · show 0 = 0 * 1 + 1 * (x 1).val
      omega
    · show (x 2).val = 0 * 6400 + 1 * (x 2).val
      omega
  · show k + 1 = (BitVec.ofNat 32 (grid0.coords (⟨k + 1, h⟩ : Fin cfg0.N) 0).val).toNat * 1 + 1 * (x 0).val
    rw [index_val]
    show k + 1 = (k + 1) * 1 + 1 * (x 0).val
    omega
  · refine rows50_apply _ _ _ _ ?_
    show k * 6400 + (x 2).val = (0 + k) * 6400 + (0 + (x 2).val)
    omega

/-- Before the first point the ids are all 512. -/
theorem idsPrev_zero (h : 0 < cfg0.N) (x : S1x1x6400.Idx) : (idsPrev m c ⟨0, h⟩ x).toNat = 512 := by
  have h0 : (x 0).val < 1 := (x 0).isLt
  have h1 : (x 1).val < 1 := (x 1).isLt
  unfold idsPrev iblk
  rw [View.read_apply]
  have e := (congrFun (V_v3 m c) (((cfg0.win 1).blk ⟨0, h⟩).view.emb x)).trans
    (concatenate_pair_apply_left (s₁ := S1x1x6400) (s₂ := S49x1x6400) (t := S50x1x6400) 0 _ _ _ _ rfl x (fun b => ?_))
  · exact congrArg BitVec.toNat e
  · fin_cases b
    · show (x 0).val = (BitVec.ofNat 32 (grid0.coords (⟨0, h⟩ : Fin cfg0.N) 0).val).toNat * 1 + 1 * (x 0).val
      rw [index_val]
      show (x 0).val = 0 * 1 + 1 * (x 0).val
      omega
    · show (x 1).val = 0 * 1 + 1 * (x 1).val
      omega
    · show (x 2).val = 0 * 6400 + 1 * (x 2).val
      omega

/-- The ids are as the launch needs them when every id is below 512. -/
theorem ids_of_lt (hlt : ∀ y, (argIds m c y).toNat < 512) : Ids m c where
  cur t x := by rw [idsCur_apply]; exact hlt _
  first h x := idsPrev_zero m c h x
  prev k h := idsPrev_succ m c k h

end Cert.Proof.KI

end
-- ==== Proof.KernelIdealRun.lean ====
/-
  The run of the named program, read at its result and at its arguments.
-/
module

public import proofs.«01_k».proof.Proof.KernelIdealIds
public import Idealize.ShloMosaic.Lib.Pipeline.ValueKit.Geometry

@[expose] public section

set_option maxRecDepth 16384

noncomputable section

open Idealize.ShloMosaic Idealize.ShloMosaic.TcCoe Idealize.SL.Sem
open Idealize.ShloMosaic.Pipeline (Dat)

namespace Cert.Proof.KI

open Cert.KernelIdeal Cert.KernelIdeal.Gen

variable {F : FTy → Type} [FloatOps F] [Named F]
variable (m : (ℓ : Loc nD τ sig) → Buf (Elt F) ℓ) (ρ : Dev nD → PrngReg)

/-- The last grid point. -/
def lastPt : Fin cfg0.N := ⟨49, by decide⟩

/-- The result array after the run: what the last point leaves. -/
theorem arr_result (c : Dev nD) : (dats m 0 c).arrAt 9 cfg0.N = result m c lastPt := by
  refine (dats m 0 c).arrAt_eq_of_after_last 9 lastPt (by decide +kernel) _ fun j => ?_
  rw [after9, cast_eq]
  refine congrArg (result m c lastPt) (funext fun a => Fin.ext ?_)
  rfl

/-- The run ends with the result at the read-out of all the blocks, the arguments unchanged and every counter at zero. -/
theorem run (hI : ∀ c, Ids m c) : θ_run defs (onTc (τ := τ) (main (F := F))) ⟨m, fun _ => 0, ρ⟩ (fun r =>
    (∀ c : Dev nD, r.2.mem ((c.tc : Thread nD τ).loc main_v8) = result m c lastPt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0) := by
  refine (θ_run defs _ _).mono (fun r h => ⟨fun c => ?_, h.2⟩) (run_main m ρ hI)
  have hw := (h.1 c).1
  have hr := (h.1 c).2
  have inp : ∀ w, (cfg0.win w).isOut = false → (dats m 0 c).arrAt w cfg0.N = V m c (Pipeline.arrRef spec0 w) := fun w hout =>
    ((dats m 0 c).arrAt_in w hout _).trans (A_eq m c w)
  exact ⟨(hw 9).trans (arr_result m c), (hw 0).trans ((inp 0 rfl).trans (V_main_arg0 m c)),
    (hr main_arg1 (Pipeline.mem_restRefs_of main_arg1 (by decide) (by decide))).trans (V_main_arg1 m c),
    (hw 3).trans ((inp 3 rfl).trans (V_main_arg2 m c)),
    (hr main_arg3 (Pipeline.mem_restRefs_of main_arg3 (by decide) (by decide))).trans (V_main_arg3 m c),
    (hw 5).trans ((inp 5 rfl).trans (V_main_arg4 m c)),
    (hr main_arg5 (Pipeline.mem_restRefs_of main_arg5 (by decide) (by decide))).trans (V_main_arg5 m c),
    (hr main_arg6 (Pipeline.mem_restRefs_of main_arg6 (by decide) (by decide))).trans (V_main_arg6 m c),
    (hr main_arg7 (Pipeline.mem_restRefs_of main_arg7 (by decide) (by decide))).trans (V_main_arg7 m c)⟩

end Cert.Proof.KI

end
-- ==== Proof.Frames.lean ====
/-
  The claims that do not compare values: every program runs, leaves its arguments and ends with every counter at zero; and
  the named program is the program's own idealization.
-/
module

public import proofs.«01_k».proof.Defs
public import proofs.«01_k».proof.Proof.PreDecode
public import proofs.«01_k».proof.Proof.KernelRun
public import proofs.«01_k».proof.Proof.KernelIdealRun
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- What the program itself needs of its ids follows from the precondition. -/
theorem kernel_ids (m : (ℓ : Loc Cert.Kernel.nD Cert.Kernel.τ Cert.Kernel.sig) → Buf (Elt Bits) ℓ)
    (h : Cert.Pre_Kernel (hPre_in_range := Cert.Pre_in_range.Gen.facts) m) (c : Dev Cert.Kernel.nD) : K.Ids m c :=
  K.ids_of_lt m c fun y => ids_lt _ _ _ _ _ _ _ _ (h c) y

/-- What the named program needs of its ids follows from the precondition. -/
theorem kernelIdeal_ids (m : (ℓ : Loc Cert.KernelIdeal.nD Cert.KernelIdeal.τ Cert.KernelIdeal.sig) → Buf (Elt Ideal) ℓ)
    (h : Cert.Pre_KernelIdeal (hPre_in_range := Cert.Pre_in_range.Gen.facts) m) (c : Dev Cert.KernelIdeal.nD) : KI.Ids m c :=
  KI.ids_of_lt m c fun y => ids_lt _ _ _ _ _ _ _ _ (h c) y

/-- The program runs, leaves its arguments and ends quiescent. -/
theorem quiescent_kernel :
    Cert.quiescent_Kernel (hKernel := Cert.Kernel.Gen.facts) (hPre_in_range := Cert.Pre_in_range.Gen.facts) := fun m g h =>
  (θ_run Cert.Kernel.defs _ _).mono (fun _ e => ⟨fun c => (e.1 c).2, e.2⟩) (K.run m g (kernel_ids m h))

/-- The named program runs, leaves its arguments and ends quiescent. -/
theorem quiescent_kernelIdeal :
    Cert.quiescent_KernelIdeal (hKernelIdeal := Cert.KernelIdeal.Gen.facts) (hPre_in_range := Cert.Pre_in_range.Gen.facts) := fun m g h =>
  (θ_run Cert.KernelIdeal.defs _ _).mono (fun _ e => ⟨fun c => (e.1 c).2, e.2⟩) (KI.run m g (kernelIdeal_ids m h))

/-- The reference runs, leaves its arguments and ends quiescent: no precondition is needed. -/
theorem quiescent_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The same under the precondition on the ids. -/
theorem quiescent_reference_pre : Cert.quiescent_ReferenceIdeal_pre_in_range (hReferenceIdeal := Cert.ReferenceIdeal.Gen.facts)
    (hPre_in_range := Cert.Pre_in_range.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The named program differs from the program in its two named constants alone. -/
theorem preserves : Cert.preserves_Kernel_KernelIdeal :=
  ⟨IdealRules.named_const.statement _ _ _ _ _ rfl, IdealRules.named_const.statement _ _ _ _ _ rfl⟩

end Cert.Proof

end
-- ==== Proof.KernelIdealTiles.lean ====
/-
  Over the extended reals: what one tile, a run of tiles and a whole block add to the accumulator, element by element.
-/
module

public import proofs.«01_k».proof.Proof.KernelIdealTop
public import Idealize.ShloMosaic.Lib.Pointwise

@[expose] public section

noncomputable section

open Idealize.ShloMosaic Cert.KernelIdeal Cert.KernelIdeal.Gen
open scoped BigOperators

namespace Cert.Proof.KI

open Cert.Proof.Words

/-- A comparison turned into a float is one where the words are equal and zero elsewhere. -/
theorem mask_eq (a b : BitVec 32) : (FloatOps.sitofp (F := Ideal) FTy.f32 (BitVec.setWidth 32 (IntOp.cmpi .eq a b)) : EReal)
    = if a = b then 1 else 0 := by
  by_cases h : a = b
  · subst h
    have e : IntOp.cmpi .eq a a = 1#1 := by simp [IntOp.cmpi]
    rw [e, if_pos rfl]
    show (((BitVec.setWidth 32 1#1).toInt : ℝ) : EReal) = 1
    have : (BitVec.setWidth 32 1#1).toInt = 1 := by decide
    rw [this]; norm_num
  · have e : IntOp.cmpi .eq a b = 0#1 := by
      show BitVec.ofBool (a == b) = 0#1
      rw [beq_false_of_ne h]; rfl
    rw [e, if_neg h]
    show (((BitVec.setWidth 32 0#1).toInt : ℝ) : EReal) = 0
    have : (BitVec.setWidth 32 0#1).toInt = 0 := by decide
    rw [this]; norm_num

/-- The sum of the rows of a block whose id is `r`, at column `j`. -/
def hit (ids : Vec Ideal S1x1x6400 .i32) (act : FVec Ideal S6400x256 .f32) (r : ℕ) (j : Fin 256) : EReal :=
  ∑ k : Fin 6400, if (ids (ix3 0 0 k)).toNat = r then act (ix2 k j) else 0

/-- A tile's row `r` has added to it the rows of the block whose id is the tile's first id plus `r`. -/
theorem tileAdd_apply (n : ℕ) (hn : n ≤ 512) (ids : Vec Ideal S1x1x6400 .i32) (act : FVec Ideal S6400x256 .f32)
    (old : Vec Ideal S32x256 .f32) (r : Fin 32) (j : Fin 256) :
    tileAdd (BitVec.ofNat 32 n) ids act old (ix2 r j) = old (ix2 r j) + hit ids act (n + r.val) j := by
  pointwise [tileAdd]
  unfold hit
  refine congrArg (old (ix2 r j) + ·) (Finset.sum_congr rfl fun k _ => ?_)
  rw [mask_eq]
  have e : (IntOp.addi (BitVec.ofNat 32 r.val) (BitVec.ofNat 32 n) = ids (ix3 0 0 k)) ↔ (ids (ix3 0 0 k)).toNat = n + r.val := by
    have hs : (IntOp.addi (BitVec.ofNat 32 r.val) (BitVec.ofNat 32 n)).toNat = n + r.val := by
      show (BitVec.ofNat 32 r.val + BitVec.ofNat 32 n).toNat = _
      rw [BitVec.toNat_add, BitVec.toNat_ofNat, BitVec.toNat_ofNat]
      have := r.isLt
      omega
    rw [← BitVec.toNat_inj, hs]
    exact eq_comm
  simp only [e, ite_mul, one_mul, zero_mul]

/-- One tile, at an element of the accumulator. -/
theorem tilePut_apply (ids : Vec Ideal S1x1x6400 .i32) (act : FVec Ideal S6400x256 .f32) (n : ℕ) (hn : n ≤ 512)
    (A : Vec Ideal S544x256 .f32) (r : Fin 544) (j : Fin 256) :
    tilePut ids act n A (ix2 r j) = A (ix2 r j) + if n ≤ r.val ∧ r.val < n + 32 then hit ids act r.val j else 0 := by
  unfold tilePut VecWindow.put
  by_cases h : n ≤ r.val ∧ r.val < n + 32
  · have hall : ∀ a : Fin 2, (![n, 0] : Fin 2 → ℕ) a ≤ ((ix2 r j : S544x256.Idx) a).val
        ∧ ((ix2 r j : S544x256.Idx) a).val < (![n, 0] : Fin 2 → ℕ) a + S32x256.size a := fun a => by
      match a with
      | ⟨0, _⟩ => exact h
      | ⟨1, _⟩ => exact ⟨Nat.zero_le _, by show j.val < 0 + 256; omega⟩
    rw [dif_pos hall, if_pos h]
    have hx : Rect.unitLocal (ix2 r j : S544x256.Idx) hall = (ix2 (⟨r.val - n, by omega⟩ : Fin 32) j : S32x256.Idx) := by
      funext a
      match a with
      | ⟨0, _⟩ => exact Fin.ext rfl
      | ⟨1, _⟩ => exact Fin.ext rfl
    rw [hx, tileAdd_apply n hn]
    have e1 : n + (r.val - n) = r.val := by omega
    have e2 : rows A n (ix2 (⟨r.val - n, by omega⟩ : Fin 32) j : S32x256.Idx) = A (ix2 r j) := by
      refine congrArg A (funext fun a => Fin.ext ?_)
      match a with
      | ⟨0, _⟩ =>
        show min (n + (r.val - n)) (544 - 1) = r.val
        have := r.isLt
        omega
      | ⟨1, _⟩ =>
        show min (0 + j.val) (256 - 1) = j.val
        have := j.isLt
        omega
    rw [e2]
    show _ + hit ids act (n + (r.val - n)) j = _
    rw [e1]
  · rw [dif_neg fun hall => h (hall 0), if_neg h, add_zero]

/-- A run of tiles, at an element of the accumulator. -/
theorem tiles_apply (ids : Vec Ideal S1x1x6400 .i32) (act : FVec Ideal S6400x256 .f32) (n : ℕ)
    (A : Vec Ideal S544x256 .f32) (r : Fin 544) (j : Fin 256) : ∀ k, n + 32 * k ≤ 544 →
    tiles ids act n A k (ix2 r j) = A (ix2 r j) + if n ≤ r.val ∧ r.val < n + 32 * k then hit ids act r.val j else 0
  | 0, _ => by rw [if_neg (by omega), add_zero]; rfl
  | k + 1, hk => by
    show tilePut ids act (n + 32 * k) (tiles ids act n A k) (ix2 r j) = _
    rw [tilePut_apply ids act (n + 32 * k) (by omega), tiles_apply ids act n A r j k (by omega), add_assoc]
    congr 1
    by_cases h1 : n ≤ r.val ∧ r.val < n + 32 * k
    · rw [if_pos h1, if_neg (by omega), if_pos (by omega), add_zero]
    · rw [if_neg h1, zero_add]
      by_cases h2 : n + 32 * k ≤ r.val ∧ r.val < n + 32 * k + 32
      · rw [if_pos h2, if_pos (by omega)]
      · rw [if_neg h2, if_neg (by omega)]

/-- An id between the smallest and the largest one lies in one of the block's tiles. -/
theorem in_tiles {a b r : ℕ} (h1 : a ≤ r) (h2 : r ≤ b) : a / 32 * 32 ≤ r ∧ r < a / 32 * 32 + 32 * (extra a b + 1) := by
  unfold extra
  omega

/-- The tiles of a block whose ids are all below 512 lie in the accumulator. -/
theorem tiles_le {a b : ℕ} (h1 : a ≤ b) (h2 : b ≤ 511) : a / 32 * 32 + 32 * (extra a b + 1) ≤ 544 := by
  unfold extra
  omega

/-- A block whose ids are all below 512 adds to every element of the accumulator its rows of that element's id. -/
theorem reduced_apply (ids : Vec Ideal S1x1x6400 .i32) (act : FVec Ideal S6400x256 .f32) (hids : ∀ x, (ids x).toNat < 512)
    (A : Vec Ideal S544x256 .f32) (r : Fin 544) (j : Fin 256) :
    reduced ids act A (ix2 r j) = A (ix2 r j) + hit ids act r.val j := by
  obtain ⟨a, b, ha, hb, -, hab, hb5, hbtw⟩ := lo_hi_between ids 0 511 (by omega) fun x => ⟨Nat.zero_le _, by have := hids x; omega⟩
  rw [reduced_eq ids act A a b ha hb hab (by omega), tiles_apply ids act _ A r j _ (tiles_le hab hb5)]
  refine congrArg (A (ix2 r j) + ·) ?_
  by_cases h : a / 32 * 32 ≤ r.val ∧ r.val < a / 32 * 32 + 32 * (extra a b + 1)
  · rw [if_pos h]
  · rw [if_neg h]
    unfold hit
    refine (Finset.sum_eq_zero fun k _ => if_neg fun e => h ?_).symm
    have hk := hbtw (ix3 0 0 k)
    rw [e] at hk
    exact in_tiles hk.1 hk.2

end Cert.Proof.KI

end
-- ==== Proof.Softplus.lean ====
/-
  The mathematics of one element: softplus by powers of two, and a real scale that comes out of a sum of extended reals.
-/
module

public import Idealize.ShloMosaic.PureOps.Ideal

@[expose] public section

noncomputable section

open Idealize.ShloMosaic
open scoped BigOperators

namespace Cert.Proof

/-- The logarithm of e to the base 2, as an extended real. -/
def L2E : EReal := (((Real.log 2)⁻¹ : ℝ) : EReal)

/-- The natural logarithm of 2, as an extended real. -/
def LN2 : EReal := ((Real.log 2 : ℝ) : EReal)

/-- The softplus of an extended real, as both programs' library computes it. -/
def softplus (z : EReal) : EReal := max z 0 + Ideal.log1p (Ideal.exp (-(max z (-z))))

/-- The activation that the kernel sums, of an already scaled argument: its logarithm is to the base 2. -/
def act2 (y : EReal) : EReal := Ideal.log (1 + Ideal.exp2 y) * L2E

/-- The natural logarithm of 2 is positive. -/
theorem log_two_pos : (0 : ℝ) < Real.log 2 := Real.log_pos (by norm_num)

/-- The scale is not negative. -/
theorem L2E_nonneg : 0 ≤ L2E := EReal.coe_nonneg.2 (inv_nonneg.2 log_two_pos.le)

/-- The scale is finite. -/
theorem L2E_ne_top : L2E ≠ ⊤ := EReal.coe_ne_top _

/-- The scale back is not negative. -/
theorem LN2_nonneg : 0 ≤ LN2 := EReal.coe_nonneg.2 log_two_pos.le

/-- The scale back is finite. -/
theorem LN2_ne_top : LN2 ≠ ⊤ := EReal.coe_ne_top _

/-- The two scales cancel. -/
theorem L2E_mul_LN2 : L2E * LN2 = 1 := by
  unfold L2E LN2
  rw [← EReal.coe_mul, inv_mul_cancel₀ log_two_pos.ne', EReal.coe_one]

/-- A finite scale that is not negative comes out of a finite sum of extended reals. -/
theorem sum_mul_scale {ι : Type*} (s : Finset ι) (f : ι → EReal) {a : EReal} (h0 : 0 ≤ a) (ht : a ≠ ⊤) :
    (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 ht, ih]

/-- On a real the two forms of softplus agree. -/
theorem log_one_add_exp (r : ℝ) : Real.log (1 + Real.exp r) = max r 0 + Real.log (1 + Real.exp (-(max r (-r)))) := by
  rcases le_total 0 r with h | h
  · rw [max_eq_left h, max_eq_left (by linarith)]
    have e : 1 + Real.exp r = Real.exp r * (1 + Real.exp (-r)) := by
      rw [mul_add, mul_one, ← Real.exp_add, add_neg_cancel, Real.exp_zero, add_comm]
    rw [e, Real.log_mul (Real.exp_pos _).ne' (by positivity), Real.log_exp]
  · rw [max_eq_right h, max_eq_right (by linarith), neg_neg, zero_add]

/-- The larger of two reals is the larger of them as extended reals. -/
theorem coe_max (a b : ℝ) : ((max a b : ℝ) : EReal) = max (a : EReal) (b : EReal) :=
  EReal.coe_strictMono.monotone.map_max

/-- The logarithm of a positive real is its real logarithm. -/
theorem log_pos_coe {r : ℝ} (h : 0 < r) : Ideal.log (r : EReal) = ((Real.log r : ℝ) : EReal) := by
  show (if r ≤ 0 then ⊥ else ((Real.log r : ℝ) : EReal)) = _
  rw [if_neg (not_le.2 h)]

/-- The kernel's activation of a scaled argument, scaled back, is the softplus of the argument: on every extended real. -/
theorem act2_scaled (z : EReal) : act2 (z * L2E) * LN2 = softplus z := by
  have hL : (0 : ℝ) < (Real.log 2)⁻¹ := inv_pos.2 log_two_pos
  unfold act2
  rw [mul_assoc, L2E_mul_LN2, mul_one]
  unfold softplus Ideal.log1p
  induction z using EReal.rec with
  | bot =>
    have e : (⊥ : EReal) * L2E = ⊥ := EReal.bot_mul_coe_of_pos hL
    rw [e]
    have h1 : Ideal.exp2 ⊥ = 0 := rfl
    have h2 : Ideal.exp (-(max (⊥ : EReal) (-⊥))) = 0 := by
      rw [EReal.neg_bot, max_eq_right bot_le, EReal.neg_top]; rfl
    have h3 : Ideal.log (1 : EReal) = 0 := by
      have := log_pos_coe (r := 1) one_pos
      rw [Real.log_one, EReal.coe_zero, EReal.coe_one] at this
      exact this
    rw [h1, h2, add_zero, h3, max_eq_right bot_le, zero_add]
  | top =>
    have e : (⊤ : EReal) * L2E = ⊤ := EReal.top_mul_coe_of_pos hL
    rw [e]
    have h1 : Ideal.exp2 ⊤ = ⊤ := rfl
    have h2 : Ideal.exp (-(max (⊤ : EReal) (-⊤))) = 0 := by
      rw [max_eq_left le_top, EReal.neg_top]; rfl
    have h3 : Ideal.log (1 : EReal) = 0 := by
      have := log_pos_coe (r := 1) one_pos
      rw [Real.log_one, EReal.coe_zero, EReal.coe_one] at this
      exact this
    have h4 : (1 : EReal) + ⊤ = ⊤ := EReal.coe_add_top 1
    rw [h1, h2, add_zero, h3, h4, max_eq_left le_top, add_zero]
    rfl
  | coe r =>
    have e : (r : EReal) * L2E = ((r * (Real.log 2)⁻¹ : ℝ) : EReal) := (EReal.coe_mul _ _).symm
    have h1 : Ideal.exp2 ((r * (Real.log 2)⁻¹ : ℝ) : EReal) = ((Real.exp r : ℝ) : EReal) := by
      show ((Real.rpow 2 (r * (Real.log 2)⁻¹) : ℝ) : EReal) = _
      congr 1
      show (2 : ℝ) ^ (r * (Real.log 2)⁻¹) = _
      rw [Real.rpow_def_of_pos two_pos, mul_comm r, ← mul_assoc, mul_inv_cancel₀ log_two_pos.ne', one_mul]
    have h2 : (-(max (r : EReal) (-(r : EReal)))) = ((-(max r (-r)) : ℝ) : EReal) := by
      rw [← EReal.coe_neg, ← coe_max, ← EReal.coe_neg]
    have h3 : Ideal.exp ((-(max r (-r)) : ℝ) : EReal) = ((Real.exp (-(max r (-r))) : ℝ) : EReal) := rfl
    rw [e, h1, h2, h3, ← EReal.coe_one, ← EReal.coe_add, ← EReal.coe_add, log_pos_coe (by positivity), log_pos_coe (by positivity),
      ← EReal.coe_zero, ← coe_max, ← EReal.coe_add, log_one_add_exp]

end Cert.Proof

end
-- ==== Proof.Layers.lean ====
/-
  The function that both programs compute over the extended reals, element by element: a linear layer, softplus, the sum of
  each segment's rows, softplus, a linear layer, softplus and a last linear layer.
-/
module

public import proofs.«01_k».proof.Proof.Softplus
public import Idealize.ShloMosaic.Lib.Pointwise

@[expose] public section

noncomputable section

open Idealize.ShloMosaic
open scoped BigOperators

namespace Cert.Proof

/-- The first linear layer, of row `n` and feature `j`. -/
def pre (H : (⟨2, ![320000, 128]⟩ : Shape).Idx → EReal) (W1 : (⟨2, ![128, 256]⟩ : Shape).Idx → EReal)
    (B1 : (⟨1, ![256]⟩ : Shape).Idx → EReal) (n : Fin 320000) (j : Fin 256) : EReal :=
  (∑ k : Fin 128, H (ix2 n k) * W1 (ix2 k j)) + B1 (ix1 j)

/-- The sum of a segment's rows after softplus. -/
def seg (ids : (⟨1, ![320000]⟩ : Shape).Idx → BitVec 32) (Z : Fin 320000 → Fin 256 → EReal) (r : Fin 512) (j : Fin 256) : EReal :=
  ∑ n : Fin 320000, if (ids (ix1 n)).toNat = r.val then softplus (Z n j) else 0

/-- The second linear layer, of softplus of a segment's sums. -/
def hid (S : Fin 512 → Fin 256 → EReal) (W2 : (⟨2, ![256, 64]⟩ : Shape).Idx → EReal) (B2 : (⟨1, ![64]⟩ : Shape).Idx → EReal)
    (r : Fin 512) (q : Fin 64) : EReal :=
  (∑ j : Fin 256, softplus (S r j) * W2 (ix2 j q)) + B2 (ix1 q)

/-- The last linear layer, of softplus of the second. -/
def out (X : Fin 512 → Fin 64 → EReal) (W3 : (⟨2, ![64, 1]⟩ : Shape).Idx → EReal) (B3 : (⟨1, ![1]⟩ : Shape).Idx → EReal)
    (r : Fin 512) : EReal :=
  (∑ q : Fin 64, softplus (X r q) * W3 (ix2 q 0)) + B3 (ix1 0)

/-- A sum over blocks of equal length is the sum over all the positions. -/
theorem sum_blocks (g : ℕ → EReal) (b : ℕ) : ∀ a : ℕ,
    ∑ t ∈ Finset.range a, ∑ k : Fin b, g (t * b + k.val) = ∑ n ∈ Finset.range (a * b), g n
  | 0 => by rw [Nat.zero_mul]; rfl
  | a + 1 => by
    rw [Finset.sum_range_succ, sum_blocks g b a, Nat.succ_mul, Finset.sum_range_add, Finset.sum_range fun x => g (a * b + x)]

end Cert.Proof

end
-- ==== Proof.KernelIdealValue.lean ====
/-
  Over the extended reals: the accumulator after all the blocks holds, up to the scale, the sum of each segment's rows after
  softplus, and the result is the two last layers of it.
-/
module

public import proofs.«01_k».proof.Proof.KernelIdealTiles
public import proofs.«01_k».proof.Proof.KernelIdealRun
public import proofs.«01_k».proof.Proof.Layers

@[expose] public section

noncomputable section

open Idealize.ShloMosaic Idealize.ShloMosaic.TcCoe Cert.KernelIdeal Cert.KernelIdeal.Gen
open scoped BigOperators

namespace Cert.Proof.KI

/-- The constant named `log2e` is the scale. -/
theorem named_log2e (b : BitVec 32) : (Named.named (F := Ideal) (φ := .f32) κ "log2e" b : EReal) = L2E := rfl

/-- The constant named `ln2` is the scale back. -/
theorem named_ln2 (b : BitVec 32) : (Named.named (F := Ideal) (φ := .f32) κ "ln2" b : EReal) = LN2 := rfl

/-- The activation of a block, element by element. -/
theorem pay3_apply (Y : Vec Ideal S6400x256 .f32) (k : Fin 6400) (j : Fin 256) : k0_pay3 Y (ix2 k j) = act2 (Y (ix2 k j)) := by
  pointwise [k0_pay3]
  rfl

/-- The first layer of a block, scaled, element by element. -/
theorem pay22_apply (H : Vec Ideal S6400x128 .f32) (W : Vec Ideal S128x256 .f32) (B : Vec Ideal S1x256 .f32) (k : Fin 6400) (j : Fin 256) :
    k0_pay22 H W B (ix2 k j) = ((∑ q : Fin 128, H (ix2 k q) * W (ix2 q j)) + B (ix2 0 j)) * L2E := by
  pointwise [k0_pay22]
  rw [named_log2e, EReal.right_distrib_of_nonneg_of_ne_top L2E_nonneg L2E_ne_top, sum_mul_scale _ _ L2E_nonneg L2E_ne_top]
  refine congrArg (· + B (ix2 0 j) * L2E) (Finset.sum_congr rfl fun q _ => (mul_assoc _ _ _).symm)

/-- The accumulator starts at zero. -/
theorem pay16_apply (r : Fin 544) (j : Fin 256) : (k0_pay16 (F := Ideal)) (ix2 r j) = 0 := by
  pointwise [k0_pay16]

/-- A choice that never falls on its first side, then softplus as the kernel spells it, is softplus. -/
theorem softplus_select (x : EReal) :
    (if x ≠ x then x else max x 0 + Ideal.log1p (Ideal.exp (0 - FloatOps.absf (F := Ideal) (φ := .f32) x))) = softplus x := by
  rw [if_neg (fun h => h rfl)]
  show max x 0 + Ideal.log1p (Ideal.exp (0 - max x (-x))) = _
  rw [zero_sub]
  rfl

/-- The second layer, from the accumulator's read-out rows. -/
theorem pay11_apply (T : Vec Ideal S512x256 .f32) (W2 : Vec Ideal S256x64 .f32) (B2 : Vec Ideal S1x64 .f32) (r : Fin 512) (q : Fin 64) :
    k0_pay11 T W2 B2 (ix2 r q) = (∑ j : Fin 256, softplus (T (ix2 r j) * LN2) * W2 (ix2 j q)) + B2 (ix2 0 q) := by
  pointwise [k0_pay11]
  rw [named_ln2]
  exact congrArg (· + B2 (ix2 0 q)) (Finset.sum_congr rfl fun j _ => congrArg (· * W2 (ix2 j q)) (softplus_select _))

/-- The read-out, from the second layer. -/
theorem readOut_apply (T : Vec Ideal S512x256 .f32) (W2 : Vec Ideal S256x64 .f32) (B2 : Vec Ideal S1x64 .f32) (W3 : Vec Ideal S1x64 .f32)
    (B3 : Vec Ideal S1x1 .f32) (r : Fin 512) (u : Fin 1) :
    readOut T W2 B2 W3 B3 (ix2 r u) = (∑ q : Fin 64, softplus (k0_pay11 T W2 B2 (ix2 r q)) * W3 (ix2 0 q)) + B3 (ix2 0 0) := by
  unfold readOut k0_pay14 k0_pay12 k0_pay13 k0_pay15
  generalize k0_pay11 T W2 B2 = X
  pointwise [k0_pay1]
  exact congrArg (· + B3 (ix2 0 0)) (Finset.sum_congr rfl fun q _ => congrArg (· * W3 (ix2 0 q)) (softplus_select _))

variable (m : (ℓ : Loc nD τ sig) → Buf (Elt Ideal) ℓ) (c : Dev nD)

/-- A block's rows of the features. -/
theorem blkH_apply (t : Fin cfg0.N) (k : Fin 6400) (q : Fin 128) :
    (iblk m c 0 t : Vec Ideal S6400x128 .f32) (ix2 k q)
      = argH m c (ix2 ⟨t.val * 6400 + k.val, row_lt t k.val k.isLt⟩ q) := by
  unfold iblk
  rw [View.read_apply]
  refine (congrFun (V_main_arg0 m c) _).trans (congrArg (argH m c) (funext fun a => Fin.ext ?_))
  match a with
  | ⟨0, _⟩ =>
    show (BitVec.ofNat 32 (grid0.coords t 0).val).toNat * 6400 + 1 * k.val = t.val * 6400 + k.val
    rw [index_val, Nat.one_mul]
  | ⟨1, _⟩ =>
    show 0 * 128 + 1 * q.val = q.val
    omega

/-- Every point's block of the first weights is all of them. -/
theorem blkW1_apply (t : Fin cfg0.N) (q : Fin 128) (j : Fin 256) :
    (iblk m c 3 t : Vec Ideal S128x256 .f32) (ix2 q j) = argW1 m c (ix2 q j) := by
  unfold iblk
  rw [View.read_apply]
  refine (congrFun (V_main_arg2 m c) _).trans (congrArg (argW1 m c) (funext fun a => Fin.ext ?_))
  match a with
  | ⟨0, _⟩ => show 0 * 128 + 1 * q.val = q.val; omega
  | ⟨1, _⟩ => show 0 * 256 + 1 * j.val = j.val; omega

/-- Every point's block of the first bias is all of it. -/
theorem blkB1_apply (t : Fin cfg0.N) (j : Fin 256) :
    (iblk m c 4 t : Vec Ideal S1x256 .f32) (ix2 0 j) = argB1 m c (ix1 j) := by
  unfold iblk
  rw [View.read_apply]
  refine (congrFun (V_v4 m c) _).trans ?_
  have e : (((cfg0.win 4).blk t).view.emb (ix2 0 j : S1x256.Idx) : S1x256.Idx) = ix2 0 j := funext fun a => Fin.ext (by
    match a with
    | ⟨0, _⟩ => rfl
    | ⟨1, _⟩ => show 0 * 256 + 1 * j.val = j.val; omega)
  refine (congrArg (shapeCast S1x256 (argB1 m c) shapeCasts_S256_S1x256) e).trans ?_
  pointwise

/-- The block of the second weights is all of them. -/
theorem blkW2_apply (t : Fin cfg0.N) (j : Fin 256) (q : Fin 64) :
    (iblk m c 5 t : Vec Ideal S256x64 .f32) (ix2 j q) = argW2 m c (ix2 j q) := by
  unfold iblk
  rw [View.read_apply]
  refine (congrFun (V_main_arg4 m c) _).trans (congrArg (argW2 m c) (funext fun a => Fin.ext ?_))
  match a with
  | ⟨0, _⟩ => show 0 * 256 + 1 * j.val = j.val; omega
  | ⟨1, _⟩ => show 0 * 64 + 1 * q.val = q.val; omega

/-- The block of the second bias is all of it. -/
theorem blkB2_apply (t : Fin cfg0.N) (q : Fin 64) :
    (iblk m c 6 t : Vec Ideal S1x64 .f32) (ix2 0 q) = argB2 m c (ix1 q) := by
  unfold iblk
  rw [View.read_apply]
  refine (congrFun (V_v5 m c) _).trans ?_
  have e : (((cfg0.win 6).blk t).view.emb (ix2 0 q : S1x64.Idx) : S1x64.Idx) = ix2 0 q := funext fun a => Fin.ext (by
    match a with
    | ⟨0, _⟩ => rfl
    | ⟨1, _⟩ => show 0 * 64 + 1 * q.val = q.val; omega)
  refine (congrArg (shapeCast S1x64 (argB2 m c) shapeCasts_S64_S1x64) e).trans ?_
  pointwise

/-- The block of the last weights is all of them, as a row. -/
theorem blkW3_apply (t : Fin cfg0.N) (q : Fin 64) :
    (iblk m c 7 t : Vec Ideal S1x64 .f32) (ix2 0 q) = argW3 m c (ix2 q 0) := by
  unfold iblk
  rw [View.read_apply]
  refine (congrFun (V_v6 m c) _).trans ?_
  have e : (((cfg0.win 7).blk t).view.emb (ix2 0 q : S1x64.Idx) : S1x64.Idx) = ix2 0 q := funext fun a => Fin.ext (by
    match a with
    | ⟨0, _⟩ => rfl
    | ⟨1, _⟩ => show 0 * 64 + 1 * q.val = q.val; omega)
  refine (congrArg (shapeCast S1x64 (argW3 m c) shapeCasts_S64x1_S1x64) e).trans ?_
  pointwise

/-- The block of the last bias is all of it. -/
theorem blkB3_apply (t : Fin cfg0.N) : (iblk m c 8 t : Vec Ideal S1x1 .f32) (ix2 0 0) = argB3 m c (ix1 0) := by
  unfold iblk
  rw [View.read_apply]
  refine (congrFun (V_v7 m c) _).trans ?_
  have e : (((cfg0.win 8).blk t).view.emb (ix2 0 0 : S1x1.Idx) : S1x1.Idx) = ix2 0 0 := funext fun a => Fin.ext (by
    match a with
    | ⟨0, _⟩ => rfl
    | ⟨1, _⟩ => rfl)
  refine (congrArg (shapeCast S1x1 (argB3 m c) shapeCasts_S1_S1x1) e).trans ?_
  pointwise

/-- What row `n` of the batch adds to the accumulator's element `(r, j)`: nothing past the last row. -/
def term (r : ℕ) (j : Fin 256) (n : ℕ) : EReal :=
  if h : n < 320000 then
    (if (argIds m c (ix1 ⟨n, h⟩)).toNat = r then act2 (pre (argH m c) (argW1 m c) (argB1 m c) ⟨n, h⟩ j * L2E) else 0)
  else 0

/-- What a block adds is the sum of what its rows add. -/
theorem hit_block (t : Fin cfg0.N) (r : ℕ) (j : Fin 256) :
    hit (idsCur m c t) (k0_pay3 (yblk m c t)) r j = ∑ k : Fin 6400, term m c r j (t.val * 6400 + k.val) := by
  unfold hit
  refine Finset.sum_congr rfl fun k _ => ?_
  unfold term
  rw [dif_pos (row_lt t k.val k.isLt), idsCur_apply]
  have e : (rowIx (t.val * 6400 + ((ix3 0 0 k : S1x1x6400.Idx) 2).val) (row_lt t _ (k.isLt)) : S320000.Idx)
      = ix1 ⟨t.val * 6400 + k.val, row_lt t k.val k.isLt⟩ := funext fun a => by
    match a with
    | ⟨0, _⟩ => rfl
  rw [e, pay3_apply]
  unfold yblk
  rw [pay22_apply]
  unfold pre
  simp only [blkH_apply, blkW1_apply, blkB1_apply]

/-- The accumulator with the first blocks reduced is the sum of what their rows add. -/
theorem accAt_apply (h : Ids m c) (r : Fin 544) (j : Fin 256) : ∀ k, k ≤ 50 →
    accAt m c k (ix2 r j) = ∑ t ∈ Finset.range k, ∑ q : Fin 6400, term m c r.val j (t * 6400 + q.val)
  | 0, _ => by rw [Finset.range_zero, Finset.sum_empty]; exact pay16_apply r j
  | k + 1, hk => by
    have hk' : k < cfg0.N := hk
    rw [Finset.sum_range_succ, ← accAt_apply h r j k (by omega), accAt, dif_pos hk', reduced_apply _ _ (h.cur _), hit_block]

/-- The read-out rows of the accumulator after all the blocks, scaled back, are the segments' sums. -/
theorem top_apply (h : Ids m c) (r : Fin 512) (j : Fin 256) :
    top (accAt m c 50) (ix2 r j) * LN2 = seg (argIds m c) (pre (argH m c) (argW1 m c) (argB1 m c)) r j := by
  have e : top (accAt m c 50) (ix2 r j) = accAt m c 50 (ix2 ⟨r.val, by have := r.isLt; omega⟩ j) :=
    congrArg (accAt m c 50) (funext fun a => Fin.ext (by
      match a with
      | ⟨0, _⟩ => show 0 + 1 * r.val = r.val; omega
      | ⟨1, _⟩ => show 0 + 1 * j.val = j.val; omega))
  rw [e, accAt_apply m c h _ j 50 le_rfl, sum_blocks, sum_mul_scale _ _ LN2_nonneg LN2_ne_top]
  unfold seg
  rw [show 50 * 6400 = 320000 from rfl, Finset.sum_range]
  refine Finset.sum_congr rfl fun n _ => ?_
  unfold term
  rw [dif_pos n.isLt]
  show (if (argIds m c (ix1 n)).toNat = r.val then act2 (pre (argH m c) (argW1 m c) (argB1 m c) n j * L2E) else 0) * LN2 = _
  by_cases hr : (argIds m c (ix1 n)).toNat = r.val
  · rw [if_pos hr, if_pos hr, act2_scaled]
  · rw [if_neg hr, if_neg hr, zero_mul]

/-- The result, element by element, is the layers' function of the arguments. -/
theorem result_apply (h : Ids m c) (t : Fin cfg0.N) (r : Fin 512) (u : Fin 1) :
    result m c t (ix2 r u) = out (hid (seg (argIds m c) (pre (argH m c) (argW1 m c) (argB1 m c))) (argW2 m c) (argB2 m c))
      (argW3 m c) (argB3 m c) r := by
  unfold result
  rw [readOut_apply]
  unfold out hid
  simp only [pay11_apply, top_apply m c h, blkW2_apply, blkB2_apply, blkW3_apply, blkB3_apply]

end Cert.Proof.KI

end
-- ==== Proof.Reference.lean ====
/-
  What the reference computes over the extended reals, element by element.
-/
module

public import proofs.«01_k».proof.Proof.Layers
public import proofs.«01_k».proof.Proof.Gen.ReferenceIdeal.Run
public import Idealize.ShloMosaic.Lib.Routing.OpsPair

@[expose] public section

set_option maxRecDepth 16384

noncomputable section

open Idealize.ShloMosaic Idealize.ShloMosaic.TcCoe Cert.ReferenceIdeal Cert.ReferenceIdeal.Gen
open scoped BigOperators

namespace Cert.Proof.Ref

/-- Softplus of an array, as the reference spells it with the zeros `Z`. -/
def soft {s : Shape} (Z X : FVec Ideal s .f32) : FVec Ideal s .f32 :=
  select (cmpf .une (subf X Z) (subf X Z)) (addf X Z) (addf (maximumf X Z) (Host.log1p (Host.exp (Host.negf (Host.absf (subf X Z))))))

/-- Softplus of an array, element by element. -/
theorem soft_apply {s : Shape} (Z X : FVec Ideal s .f32) (hZ : ∀ i, Z i = 0) (i : s.Idx) : soft Z X i = softplus (X i) := by
  unfold soft
  pointwise
  rw [hZ, if_neg (fun h => h rfl), sub_zero]
  rfl

/-- The first layer. -/
def first (H : Vec Ideal S320000x128 .f32) (W1 : Vec Ideal S128x256 .f32) (B1 : Vec Ideal S256 .f32) : FVec Ideal S320000x256 .f32 :=
  addf (Host.dotGeneral (φ₁ := .f32) (φ₂ := .f32) dot_S320000x128_S128x256_S320000x256_1_0_0_1_n_n none H W1)
    (broadcastInDim S320000x256 ![0, 1] bcast_S1x256_S320000x256_0_1 (broadcastInDim S1x256 ![1] bcast_S256_S1x256_1 B1))

/-- The sums of the segments' rows. -/
def sums (ids : Vec Ideal S320000 .i32) (X : FVec Ideal S320000x256 .f32) : FVec Ideal S512x256 .f32 :=
  Host.scatterAdd scatter_S512x256_S320000x1_S320000x256_1_0_0_1 (broadcastInDim S512x256 ![] bcast_S_S512x256 (constant S_ .f32 0x00000000#32))
    (broadcastInDim S320000x1 ![0] bcast_S320000_S320000x1_0 ids) X

/-- The second layer. -/
def second (X : FVec Ideal S512x256 .f32) (W2 : Vec Ideal S256x64 .f32) (B2 : Vec Ideal S64 .f32) : FVec Ideal S512x64 .f32 :=
  addf (Host.dotGeneral (φ₁ := .f32) (φ₂ := .f32) dot_S512x256_S256x64_S512x64_1_0_0_1_n_n none X W2)
    (broadcastInDim S512x64 ![0, 1] bcast_S1x64_S512x64_0_1 (broadcastInDim S1x64 ![1] bcast_S64_S1x64_1 B2))

/-- The last layer. -/
def last (X : FVec Ideal S512x64 .f32) (W3 : Vec Ideal S64x1 .f32) (B3 : Vec Ideal S1 .f32) : FVec Ideal S512x1 .f32 :=
  addf (Host.dotGeneral (φ₁ := .f32) (φ₂ := .f32) dot_S512x64_S64x1_S512x1_1_0_0_1_n_n none X W3)
    (broadcastInDim S512x1 ![0, 1] bcast_S1x1_S512x1_0_1 (broadcastInDim S1x1 ![1] bcast_S1_S1x1_1 B3))

variable (m : (ℓ : Loc nD τ sig) → Buf (Elt Ideal) ℓ) (c : Dev nD)

/-- The argument arrays, at their shapes. -/
def argH : Vec Ideal S320000x128 .f32 := m ((c : Thread nD τ).loc main_arg0)
/-- The ids. -/
def argIds : Vec Ideal S320000 .i32 := m ((c : Thread nD τ).loc main_arg1)
/-- The first weights. -/
def argW1 : Vec Ideal S128x256 .f32 := m ((c : Thread nD τ).loc main_arg2)
/-- The first bias. -/
def argB1 : Vec Ideal S256 .f32 := m ((c : Thread nD τ).loc main_arg3)
/-- The second weights. -/
def argW2 : Vec Ideal S256x64 .f32 := m ((c : Thread nD τ).loc main_arg4)
/-- The second bias. -/
def argB2 : Vec Ideal S64 .f32 := m ((c : Thread nD τ).loc main_arg5)
/-- The last weights. -/
def argW3 : Vec Ideal S64x1 .f32 := m ((c : Thread nD τ).loc main_arg6)
/-- The last bias. -/
def argB3 : Vec Ideal S1 .f32 := m ((c : Thread nD τ).loc main_arg7)

/-- The reference's result is its layers, one after the other. -/
theorem result_eq : Value.res_main_v17 m c
    = last (soft (broadcastInDim S512x64 ![] bcast_S_S512x64 (constant S_ .f32 0x00000000#32))
        (second (soft (broadcastInDim S512x256 ![] bcast_S_S512x256 (constant S_ .f32 0x00000000#32))
          (sums (argIds m c) (soft (broadcastInDim S320000x256 ![] bcast_S_S320000x256 (constant S_ .f32 0x00000000#32))
            (first (argH m c) (argW1 m c) (argB1 m c))))) (argW2 m c) (argB2 m c))) (argW3 m c) (argB3 m c) := by
  unfold Value.res_main_v17
  rfl

/-- The first layer, element by element. -/
theorem first_apply (H : Vec Ideal S320000x128 .f32) (W1 : Vec Ideal S128x256 .f32) (B1 : Vec Ideal S256 .f32) (n : Fin 320000) (j : Fin 256) :
    first H W1 B1 (ix2 n j) = pre H W1 B1 n j := by
  pointwise [first]
  rfl

/-- The second layer, element by element. -/
theorem second_apply (X : FVec Ideal S512x256 .f32) (W2 : Vec Ideal S256x64 .f32) (B2 : Vec Ideal S64 .f32) (r : Fin 512) (q : Fin 64) :
    second X W2 B2 (ix2 r q) = (∑ j : Fin 256, X (ix2 r j) * W2 (ix2 j q)) + B2 (ix1 q) := by
  pointwise [second]

/-- The last layer, element by element. -/
theorem last_apply (X : FVec Ideal S512x64 .f32) (W3 : Vec Ideal S64x1 .f32) (B3 : Vec Ideal S1 .f32) (r : Fin 512) (u : Fin 1) :
    last X W3 B3 (ix2 r u) = (∑ q : Fin 64, X (ix2 r q) * W3 (ix2 q 0)) + B3 (ix1 0) := by
  pointwise [last]
  obtain rfl : u = 0 := Subsingleton.elim _ _
  rfl

/-- Row `n`, column `j'` of the updates lands at `(r, j)` exactly when the row's id, read signed, is `r` and the columns are one. -/
theorem lands (idx : IVec S320000x1 32) (n : Fin 320000) (j' : Fin 256) (r : Fin 512) (j : Fin 256) :
    scatter_S512x256_S320000x1_S320000x256_1_0_0_1.resultIdx? (ix2 n j' : S320000x256.Idx) idx = some (ix2 r j)
      ↔ (idx (ix2 n 0)).toInt = (r.val : Int) ∧ j' = j := by
  have h0 : scatter_S512x256_S320000x1_S320000x256_1_0_0_1.start (ix2 n j' : S320000x256.Idx) idx (0 : Fin 2) = (idx (ix2 n 0)).toInt := by
    unfold ScatterDims.start
    have hm : (0 : Fin 2) ∈ scatter_S512x256_S320000x1_S320000x256_1_0_0_1.scatterDimsToOperandDims := List.mem_singleton.2 rfl
    refine (dif_pos hm).trans ?_
    refine congrArg (fun y => (idx y).toInt) (funext fun a => ?_)
    match a with
    | ⟨0, _⟩ => rfl
    | ⟨1, _⟩ => rfl
  have h1 : scatter_S512x256_S320000x1_S320000x256_1_0_0_1.start (ix2 n j' : S320000x256.Idx) idx (1 : Fin 2) = 0 := rfl
  have w0 : scatter_S512x256_S320000x1_S320000x256_1_0_0_1.window (ix2 n j' : S320000x256.Idx) (0 : Fin 2) = 0 := rfl
  have w1 : scatter_S512x256_S320000x1_S320000x256_1_0_0_1.window (ix2 n j' : S320000x256.Idx) (1 : Fin 2) = j'.val := rfl
  rw [Routing.resultIdx?_eq_some]
  constructor
  · intro h
    have e0 := h (0 : Fin 2)
    have e1 := h (1 : Fin 2)
    rw [h0, w0] at e0
    rw [h1, w1] at e1
    have e0' : (idx (ix2 n 0)).toInt + ((0 : ℕ) : ℤ) = (r.val : ℤ) := e0
    have e1' : (0 : ℤ) + ((j'.val : ℕ) : ℤ) = (j.val : ℤ) := e1
    exact ⟨by omega, Fin.ext (by omega)⟩
  · rintro ⟨e0, rfl⟩ a
    match a with
    | ⟨0, _⟩ =>
      show scatter_S512x256_S320000x1_S320000x256_1_0_0_1.start (ix2 n j' : S320000x256.Idx) idx (0 : Fin 2)
        + (scatter_S512x256_S320000x1_S320000x256_1_0_0_1.window (ix2 n j' : S320000x256.Idx) (0 : Fin 2) : ℤ) = (r.val : ℤ)
      rw [h0, w0, e0]
      rfl
    | ⟨1, _⟩ =>
      show scatter_S512x256_S320000x1_S320000x256_1_0_0_1.start (ix2 n j' : S320000x256.Idx) idx (1 : Fin 2)
        + (scatter_S512x256_S320000x1_S320000x256_1_0_0_1.window (ix2 n j' : S320000x256.Idx) (1 : Fin 2) : ℤ) = (j'.val : ℤ)
      rw [h1, w1, zero_add]

/-- The sums of the segments' rows, element by element, where every id is below 512. -/
theorem sums_apply (ids : Vec Ideal S320000 .i32) (hids : ∀ y, (ids y).toNat < 512) (X : FVec Ideal S320000x256 .f32)
    (r : Fin 512) (j : Fin 256) :
    sums ids X (ix2 r j) = ∑ n : Fin 320000, if (ids (ix1 n)).toNat = r.val then X (ix2 n j) else 0 := by
  unfold sums Host.scatterAdd
  rw [Ideal.hostScatterAdd_def]
  unfold Ideal.hostScatterAdd
  have hz : (broadcastInDim S512x256 ![] bcast_S_S512x256 (constant (F := Ideal) S_ .f32 0x00000000#32)) (ix2 r j) = 0 := by
    pointwise
  rw [hz, zero_add, Finset.sum_filter, sum_idx2]
  refine Finset.sum_congr rfl fun n _ => ?_
  have hi : (broadcastInDim S320000x1 ![0] bcast_S320000_S320000x1_0 ids) (ix2 n 0) = ids (ix1 n) := by
    pointwise
  have hc : ∀ j' : Fin 256, (scatter_S512x256_S320000x1_S320000x256_1_0_0_1.resultIdx? (ix2 n j' : S320000x256.Idx)
      (broadcastInDim S320000x1 ![0] bcast_S320000_S320000x1_0 ids) = some (ix2 r j)) ↔ ((ids (ix1 n)).toNat = r.val ∧ j' = j) := fun j' => by
    rw [lands, hi]
    have h5 := hids (ix1 n)
    rw [BitVec.toInt_eq_toNat_cond, if_pos (by omega)]
    exact and_congr_left fun _ => Int.natCast_inj
  simp only [hc]
  by_cases h : (ids (ix1 n)).toNat = r.val
  · rw [if_pos h]
    simp only [h, true_and]
    rw [Finset.sum_ite_eq' Finset.univ j fun j' => X (ix2 n j'), if_pos (Finset.mem_univ _)]
  · rw [if_neg h]
    exact Finset.sum_eq_zero fun j' _ => if_neg fun q => h q.1

/-- The reference's result, element by element, is the layers' function of the arguments, where every id is below 512. -/
theorem result_apply (hids : ∀ y, (argIds m c y).toNat < 512) (r : Fin 512) (u : Fin 1) :
    (Value.res_main_v17 m c : Vec Ideal S512x1 .f32) (ix2 r u)
      = out (hid (seg (argIds m c) (pre (argH m c) (argW1 m c) (argB1 m c))) (argW2 m c) (argB2 m c)) (argW3 m c) (argB3 m c) r := by
  have z : ∀ (s : Shape) (h : S_.BroadcastsInDim s (![] : Fin 0 → Fin s.rank)) (i : s.Idx),
      (broadcastInDim s ![] h (constant (F := Ideal) S_ .f32 0x00000000#32)) i = 0 := fun s h i => Ideal.ofBits_zero_f32
  rw [result_eq, last_apply]
  unfold out hid seg
  simp only [soft_apply _ _ (z _ _), second_apply, sums_apply _ hids, first_apply]

end Cert.Proof.Ref

end
-- ==== Proof.Algebraic.lean ====
/-
  The equation: over the extended reals the kernel and the reference leave the same result.
-/
module

public import proofs.«01_k».proof.Proof.Frames
public import proofs.«01_k».proof.Proof.KernelIdealValue
public import proofs.«01_k».proof.Proof.Reference

@[expose] public section

noncomputable section

open Idealize.ShloMosaic Idealize.ShloMosaic.TcCoe Idealize.SL.Sem

namespace Cert.Proof

/-- From equal arguments with ids below 512 the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hlt : ∀ y, (KI.argIds m c y).toNat < 512)
    (h0 : Ref.argH m' c = KI.argH m c) (h1 : Ref.argIds m' c = KI.argIds m c) (h2 : Ref.argW1 m' c = KI.argW1 m c)
    (h3 : Ref.argB1 m' c = KI.argB1 m c) (h4 : Ref.argW2 m' c = KI.argW2 m c) (h5 : Ref.argB2 m' c = KI.argB2 m c)
    (h6 : Ref.argW3 m' c = KI.argW3 m c) (h7 : Ref.argB3 m' c = KI.argB3 m c) :
    (Cert.ReferenceIdeal.Value.res_main_v17 m' c : (⟨2, ![512, 1]⟩ : Shape).Idx → EReal) = KI.result m c KI.lastPt := by
  funext i
  have e := Ref.result_apply m' c (fun y => by rw [h1]; exact hlt y) (i 0) (i 1)
  rw [h0, h1, h2, h3, h4, h5, h6, h7] at e
  have k := KI.result_apply m c (KI.ids_of_lt m c hlt) KI.lastPt (i 0) (i 1)
  rw [eq_ix2 i]
  exact e.trans k.symm

/-- The kernel over the extended reals computes what the reference computes, on all arguments with ids in range. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := fun m g m' g' hpre hargs => by
  refine ⟨fun c => KI.result m c KI.lastPt, (θ_run Cert.KernelIdeal.defs _ _).mono (fun _ e => e.1)
    (KI.run m g (kernelIdeal_ids m hpre)), (θ_run Cert.ReferenceIdeal.defs _ _).mono (fun r e c => ⟨(e c).1.trans ?_, (e c).2⟩)
    (Cert.ReferenceIdeal.Value.run (F := Ideal) m' g')⟩
  obtain ⟨h0, h1, h2, h3, h4, h5, h6, h7⟩ := hargs c
  exact results_eq m m' c (fun y => ids_lt _ _ _ _ _ _ _ _ (hpre c) y) h0 h1 h2 h3 h4 h5 h6 h7

end Cert.Proof

end
-- ==== Proof.lean ====
/-
  The certificate: every program runs and leaves its arguments, the idealized program is the program's own idealization, and
  over the extended reals it computes what the reference computes.
-/
module

public import proofs.«01_k».proof.Defs
public import proofs.«01_k».proof.Proof.Frames
public import proofs.«01_k».proof.Proof.Algebraic

@[expose] public section

namespace Cert.Proof

/-- Everything that this certificate claims. -/
theorem claim : Cert.Claim :=
  ⟨Cert.Kernel.Gen.facts, Cert.KernelIdeal.Gen.facts, Cert.ReferenceIdeal.Gen.facts, Cert.Pre_in_range.Gen.facts,
    quiescent_kernel, quiescent_kernelIdeal, quiescent_reference, quiescent_reference_pre, preserves, algebraic⟩

end Cert.Proof

end
